-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2 = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModIdeal_mod_finite [hPre_mod_finite : Cert.Pre_mod_finite.Facts] (m : (ℓ : Loc Cert.ModIdeal.nD Cert.ModIdeal.τ Cert.ModIdeal.sig) → Buf (Elt Ideal) ℓ) : Prop :=
  ∀ c : Dev Cert.ModIdeal.nD,
    (Cert.Pre_mod_finite.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2))).1 = (fun _ => 1#1)
    ∧ (Cert.Pre_mod_finite.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2))).2 = (fun _ => 1#1)

def Pre_ModRefIdeal (m : (ℓ : Loc Cert.ModRefIdeal.nD Cert.ModRefIdeal.τ Cert.ModRefIdeal.sig) → Buf (Elt Ideal) ℓ) : Prop :=
  True

def Pre_ModRefIdeal_mod_finite [hPre_mod_finite : Cert.Pre_mod_finite.Facts] (m : (ℓ : Loc Cert.ModRefIdeal.nD Cert.ModRefIdeal.τ Cert.ModRefIdeal.sig) → Buf (Elt Ideal) ℓ) : Prop :=
  ∀ c : Dev Cert.ModRefIdeal.nD,
    (Cert.Pre_mod_finite.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2))).1 = (fun _ => 1#1)
    ∧ (Cert.Pre_mod_finite.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2))).2 = (fun _ => 1#1)

def Pre_Inner (m : (ℓ : Loc Cert.Inner.nD Cert.Inner.τ Cert.Inner.sig) → Buf (Elt Bits) ℓ) : Prop :=
  True

def Pre_InnerIdeal (m : (ℓ : Loc Cert.InnerIdeal.nD Cert.InnerIdeal.τ Cert.InnerIdeal.sig) → Buf (Elt Ideal) ℓ) : Prop :=
  True

def Pre_InnerIdeal_ffn_finite [hPre_ffn_finite : Cert.Pre_ffn_finite.Facts] (m : (ℓ : Loc Cert.InnerIdeal.nD Cert.InnerIdeal.τ Cert.InnerIdeal.sig) → Buf (Elt Ideal) ℓ) : Prop :=
  ∀ c : Dev Cert.InnerIdeal.nD,
    (Cert.Pre_ffn_finite.fn (F := Ideal) (m ((c.tc : Thread Cert.InnerIdeal.nD Cert.InnerIdeal.τ).loc Cert.InnerIdeal.main_arg0)) (m ((c.tc : Thread Cert.InnerIdeal.nD Cert.InnerIdeal.τ).loc Cert.InnerIdeal.main_arg1)) (m ((c.tc : Thread Cert.InnerIdeal.nD Cert.InnerIdeal.τ).loc Cert.InnerIdeal.main_arg2)) (m ((c.tc : Thread Cert.InnerIdeal.nD Cert.InnerIdeal.τ).loc Cert.InnerIdeal.main_arg3)) (m ((c.tc : Thread Cert.InnerIdeal.nD Cert.InnerIdeal.τ).loc Cert.InnerIdeal.main_arg4)) (m ((c.tc : Thread Cert.InnerIdeal.nD Cert.InnerIdeal.τ).loc Cert.InnerIdeal.main_arg5)) (m ((c.tc : Thread Cert.InnerIdeal.nD Cert.InnerIdeal.τ).loc Cert.InnerIdeal.main_arg6))).1 = (fun _ => 1#1)
    ∧ (Cert.Pre_ffn_finite.fn (F := Ideal) (m ((c.tc : Thread Cert.InnerIdeal.nD Cert.InnerIdeal.τ).loc Cert.InnerIdeal.main_arg0)) (m ((c.tc : Thread Cert.InnerIdeal.nD Cert.InnerIdeal.τ).loc Cert.InnerIdeal.main_arg1)) (m ((c.tc : Thread Cert.InnerIdeal.nD Cert.InnerIdeal.τ).loc Cert.InnerIdeal.main_arg2)) (m ((c.tc : Thread Cert.InnerIdeal.nD Cert.InnerIdeal.τ).loc Cert.InnerIdeal.main_arg3)) (m ((c.tc : Thread Cert.InnerIdeal.nD Cert.InnerIdeal.τ).loc Cert.InnerIdeal.main_arg4)) (m ((c.tc : Thread Cert.InnerIdeal.nD Cert.InnerIdeal.τ).loc Cert.InnerIdeal.main_arg5)) (m ((c.tc : Thread Cert.InnerIdeal.nD Cert.InnerIdeal.τ).loc Cert.InnerIdeal.main_arg6))).2.1 = (fun _ => 1#1)
    ∧ (Cert.Pre_ffn_finite.fn (F := Ideal) (m ((c.tc : Thread Cert.InnerIdeal.nD Cert.InnerIdeal.τ).loc Cert.InnerIdeal.main_arg0)) (m ((c.tc : Thread Cert.InnerIdeal.nD Cert.InnerIdeal.τ).loc Cert.InnerIdeal.main_arg1)) (m ((c.tc : Thread Cert.InnerIdeal.nD Cert.InnerIdeal.τ).loc Cert.InnerIdeal.main_arg2)) (m ((c.tc : Thread Cert.InnerIdeal.nD Cert.InnerIdeal.τ).loc Cert.InnerIdeal.main_arg3)) (m ((c.tc : Thread Cert.InnerIdeal.nD Cert.InnerIdeal.τ).loc Cert.InnerIdeal.main_arg4)) (m ((c.tc : Thread Cert.InnerIdeal.nD Cert.InnerIdeal.τ).loc Cert.InnerIdeal.main_arg5)) (m ((c.tc : Thread Cert.InnerIdeal.nD Cert.InnerIdeal.τ).loc Cert.InnerIdeal.main_arg6))).2.2.1 = (fun _ => 1#1)
    ∧ (Cert.Pre_ffn_finite.fn (F := Ideal) (m ((c.tc : Thread Cert.InnerIdeal.nD Cert.InnerIdeal.τ).loc Cert.InnerIdeal.main_arg0)) (m ((c.tc : Thread Cert.InnerIdeal.nD Cert.InnerIdeal.τ).loc Cert.InnerIdeal.main_arg1)) (m ((c.tc : Thread Cert.InnerIdeal.nD Cert.InnerIdeal.τ).loc Cert.InnerIdeal.main_arg2)) (m ((c.tc : Thread Cert.InnerIdeal.nD Cert.InnerIdeal.τ).loc Cert.InnerIdeal.main_arg3)) (m ((c.tc : Thread Cert.InnerIdeal.nD Cert.InnerIdeal.τ).loc Cert.InnerIdeal.main_arg4)) (m ((c.tc : Thread Cert.InnerIdeal.nD Cert.InnerIdeal.τ).loc Cert.InnerIdeal.main_arg5)) (m ((c.tc : Thread Cert.InnerIdeal.nD Cert.InnerIdeal.τ).loc Cert.InnerIdeal.main_arg6))).2.2.2.1 = (fun _ => 1#1)
    ∧ (Cert.Pre_ffn_finite.fn (F := Ideal) (m ((c.tc : Thread Cert.InnerIdeal.nD Cert.InnerIdeal.τ).loc Cert.InnerIdeal.main_arg0)) (m ((c.tc : Thread Cert.InnerIdeal.nD Cert.InnerIdeal.τ).loc Cert.InnerIdeal.main_arg1)) (m ((c.tc : Thread Cert.InnerIdeal.nD Cert.InnerIdeal.τ).loc Cert.InnerIdeal.main_arg2)) (m ((c.tc : Thread Cert.InnerIdeal.nD Cert.InnerIdeal.τ).loc Cert.InnerIdeal.main_arg3)) (m ((c.tc : Thread Cert.InnerIdeal.nD Cert.InnerIdeal.τ).loc Cert.InnerIdeal.main_arg4)) (m ((c.tc : Thread Cert.InnerIdeal.nD Cert.InnerIdeal.τ).loc Cert.InnerIdeal.main_arg5)) (m ((c.tc : Thread Cert.InnerIdeal.nD Cert.InnerIdeal.τ).loc Cert.InnerIdeal.main_arg6))).2.2.2.2 = (fun _ => 1#1)

def Pre_InnerRefIdeal (m : (ℓ : Loc Cert.InnerRefIdeal.nD Cert.InnerRefIdeal.τ Cert.InnerRefIdeal.sig) → Buf (Elt Ideal) ℓ) : Prop :=
  True

def Pre_InnerRefIdeal_ffn_finite [hPre_ffn_finite : Cert.Pre_ffn_finite.Facts] (m : (ℓ : Loc Cert.InnerRefIdeal.nD Cert.InnerRefIdeal.τ Cert.InnerRefIdeal.sig) → Buf (Elt Ideal) ℓ) : Prop :=
  ∀ c : Dev Cert.InnerRefIdeal.nD,
    (Cert.Pre_ffn_finite.fn (F := Ideal) (m ((c.tc : Thread Cert.InnerRefIdeal.nD Cert.InnerRefIdeal.τ).loc Cert.InnerRefIdeal.main_arg0)) (m ((c.tc : Thread Cert.InnerRefIdeal.nD Cert.InnerRefIdeal.τ).loc Cert.InnerRefIdeal.main_arg1)) (m ((c.tc : Thread Cert.InnerRefIdeal.nD Cert.InnerRefIdeal.τ).loc Cert.InnerRefIdeal.main_arg2)) (m ((c.tc : Thread Cert.InnerRefIdeal.nD Cert.InnerRefIdeal.τ).loc Cert.InnerRefIdeal.main_arg3)) (m ((c.tc : Thread Cert.InnerRefIdeal.nD Cert.InnerRefIdeal.τ).loc Cert.InnerRefIdeal.main_arg4)) (m ((c.tc : Thread Cert.InnerRefIdeal.nD Cert.InnerRefIdeal.τ).loc Cert.InnerRefIdeal.main_arg5)) (m ((c.tc : Thread Cert.InnerRefIdeal.nD Cert.InnerRefIdeal.τ).loc Cert.InnerRefIdeal.main_arg6))).1 = (fun _ => 1#1)
    ∧ (Cert.Pre_ffn_finite.fn (F := Ideal) (m ((c.tc : Thread Cert.InnerRefIdeal.nD Cert.InnerRefIdeal.τ).loc Cert.InnerRefIdeal.main_arg0)) (m ((c.tc : Thread Cert.InnerRefIdeal.nD Cert.InnerRefIdeal.τ).loc Cert.InnerRefIdeal.main_arg1)) (m ((c.tc : Thread Cert.InnerRefIdeal.nD Cert.InnerRefIdeal.τ).loc Cert.InnerRefIdeal.main_arg2)) (m ((c.tc : Thread Cert.InnerRefIdeal.nD Cert.InnerRefIdeal.τ).loc Cert.InnerRefIdeal.main_arg3)) (m ((c.tc : Thread Cert.InnerRefIdeal.nD Cert.InnerRefIdeal.τ).loc Cert.InnerRefIdeal.main_arg4)) (m ((c.tc : Thread Cert.InnerRefIdeal.nD Cert.InnerRefIdeal.τ).loc Cert.InnerRefIdeal.main_arg5)) (m ((c.tc : Thread Cert.InnerRefIdeal.nD Cert.InnerRefIdeal.τ).loc Cert.InnerRefIdeal.main_arg6))).2.1 = (fun _ => 1#1)
    ∧ (Cert.Pre_ffn_finite.fn (F := Ideal) (m ((c.tc : Thread Cert.InnerRefIdeal.nD Cert.InnerRefIdeal.τ).loc Cert.InnerRefIdeal.main_arg0)) (m ((c.tc : Thread Cert.InnerRefIdeal.nD Cert.InnerRefIdeal.τ).loc Cert.InnerRefIdeal.main_arg1)) (m ((c.tc : Thread Cert.InnerRefIdeal.nD Cert.InnerRefIdeal.τ).loc Cert.InnerRefIdeal.main_arg2)) (m ((c.tc : Thread Cert.InnerRefIdeal.nD Cert.InnerRefIdeal.τ).loc Cert.InnerRefIdeal.main_arg3)) (m ((c.tc : Thread Cert.InnerRefIdeal.nD Cert.InnerRefIdeal.τ).loc Cert.InnerRefIdeal.main_arg4)) (m ((c.tc : Thread Cert.InnerRefIdeal.nD Cert.InnerRefIdeal.τ).loc Cert.InnerRefIdeal.main_arg5)) (m ((c.tc : Thread Cert.InnerRefIdeal.nD Cert.InnerRefIdeal.τ).loc Cert.InnerRefIdeal.main_arg6))).2.2.1 = (fun _ => 1#1)
    ∧ (Cert.Pre_ffn_finite.fn (F := Ideal) (m ((c.tc : Thread Cert.InnerRefIdeal.nD Cert.InnerRefIdeal.τ).loc Cert.InnerRefIdeal.main_arg0)) (m ((c.tc : Thread Cert.InnerRefIdeal.nD Cert.InnerRefIdeal.τ).loc Cert.InnerRefIdeal.main_arg1)) (m ((c.tc : Thread Cert.InnerRefIdeal.nD Cert.InnerRefIdeal.τ).loc Cert.InnerRefIdeal.main_arg2)) (m ((c.tc : Thread Cert.InnerRefIdeal.nD Cert.InnerRefIdeal.τ).loc Cert.InnerRefIdeal.main_arg3)) (m ((c.tc : Thread Cert.InnerRefIdeal.nD Cert.InnerRefIdeal.τ).loc Cert.InnerRefIdeal.main_arg4)) (m ((c.tc : Thread Cert.InnerRefIdeal.nD Cert.InnerRefIdeal.τ).loc Cert.InnerRefIdeal.main_arg5)) (m ((c.tc : Thread Cert.InnerRefIdeal.nD Cert.InnerRefIdeal.τ).loc Cert.InnerRefIdeal.main_arg6))).2.2.2.1 = (fun _ => 1#1)
    ∧ (Cert.Pre_ffn_finite.fn (F := Ideal) (m ((c.tc : Thread Cert.InnerRefIdeal.nD Cert.InnerRefIdeal.τ).loc Cert.InnerRefIdeal.main_arg0)) (m ((c.tc : Thread Cert.InnerRefIdeal.nD Cert.InnerRefIdeal.τ).loc Cert.InnerRefIdeal.main_arg1)) (m ((c.tc : Thread Cert.InnerRefIdeal.nD Cert.InnerRefIdeal.τ).loc Cert.InnerRefIdeal.main_arg2)) (m ((c.tc : Thread Cert.InnerRefIdeal.nD Cert.InnerRefIdeal.τ).loc Cert.InnerRefIdeal.main_arg3)) (m ((c.tc : Thread Cert.InnerRefIdeal.nD Cert.InnerRefIdeal.τ).loc Cert.InnerRefIdeal.main_arg4)) (m ((c.tc : Thread Cert.InnerRefIdeal.nD Cert.InnerRefIdeal.τ).loc Cert.InnerRefIdeal.main_arg5)) (m ((c.tc : Thread Cert.InnerRefIdeal.nD Cert.InnerRefIdeal.τ).loc Cert.InnerRefIdeal.main_arg6))).2.2.2.2 = (fun _ => 1#1)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModIdeal_pre_mod_finite [hModIdeal : Cert.ModIdeal.Facts] [hPre_mod_finite : Cert.Pre_mod_finite.Facts] : Prop :=
  ∀ (m : (ℓ : Loc Cert.ModIdeal.nD Cert.ModIdeal.τ Cert.ModIdeal.sig) → Buf (Elt Ideal) ℓ) (g : Dev Cert.ModIdeal.nD → PrngReg), Pre_ModIdeal_mod_finite m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_ModRefIdeal_pre_mod_finite [hModRefIdeal : Cert.ModRefIdeal.Facts] [hPre_mod_finite : Cert.Pre_mod_finite.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal_mod_finite m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Inner [hInner : Cert.Inner.Facts] : Prop :=
  ∀ (m : (ℓ : Loc Cert.Inner.nD Cert.Inner.τ Cert.Inner.sig) → Buf (Elt Bits) ℓ) (g : Dev Cert.Inner.nD → PrngReg), Pre_Inner m →
    θ_run (Cert.Inner.defs (F := Bits)) (onTc (τ := Cert.Inner.τ) (Cert.Inner.main (F := Bits))) ⟨m, fun _ => 0, g⟩ (fun r => (∀ c : Dev Cert.Inner.nD,
      r.2.mem ((c.tc : Thread Cert.Inner.nD Cert.Inner.τ).loc Cert.Inner.main_arg0) = m ((c.tc : Thread Cert.Inner.nD Cert.Inner.τ).loc Cert.Inner.main_arg0)
      ∧ r.2.mem ((c.tc : Thread Cert.Inner.nD Cert.Inner.τ).loc Cert.Inner.main_arg1) = m ((c.tc : Thread Cert.Inner.nD Cert.Inner.τ).loc Cert.Inner.main_arg1)
      ∧ r.2.mem ((c.tc : Thread Cert.Inner.nD Cert.Inner.τ).loc Cert.Inner.main_arg2) = m ((c.tc : Thread Cert.Inner.nD Cert.Inner.τ).loc Cert.Inner.main_arg2)
      ∧ r.2.mem ((c.tc : Thread Cert.Inner.nD Cert.Inner.τ).loc Cert.Inner.main_arg3) = m ((c.tc : Thread Cert.Inner.nD Cert.Inner.τ).loc Cert.Inner.main_arg3)
      ∧ r.2.mem ((c.tc : Thread Cert.Inner.nD Cert.Inner.τ).loc Cert.Inner.main_arg4) = m ((c.tc : Thread Cert.Inner.nD Cert.Inner.τ).loc Cert.Inner.main_arg4)
      ∧ r.2.mem ((c.tc : Thread Cert.Inner.nD Cert.Inner.τ).loc Cert.Inner.main_arg5) = m ((c.tc : Thread Cert.Inner.nD Cert.Inner.τ).loc Cert.Inner.main_arg5)
      ∧ r.2.mem ((c.tc : Thread Cert.Inner.nD Cert.Inner.τ).loc Cert.Inner.main_arg6) = m ((c.tc : Thread Cert.Inner.nD Cert.Inner.τ).loc Cert.Inner.main_arg6))
      ∧ r.2.sem = fun _ => 0)

def quiescent_InnerIdeal [hInnerIdeal : Cert.InnerIdeal.Facts] : Prop :=
  ∀ (m : (ℓ : Loc Cert.InnerIdeal.nD Cert.InnerIdeal.τ Cert.InnerIdeal.sig) → Buf (Elt Ideal) ℓ) (g : Dev Cert.InnerIdeal.nD → PrngReg), Pre_InnerIdeal m →
    θ_run (Cert.InnerIdeal.defs (F := Ideal)) (onTc (τ := Cert.InnerIdeal.τ) (Cert.InnerIdeal.main (F := Ideal))) ⟨m, fun _ => 0, g⟩ (fun r => (∀ c : Dev Cert.InnerIdeal.nD,
      r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
      ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
      ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
      ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
      ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4)
      ∧ r.2.mem ((c.tc : Thread Cert.InnerIdeal.nD Cert.InnerIdeal.τ).loc Cert.InnerIdeal.main_arg5) = m ((c.tc : Thread Cert.InnerIdeal.nD Cert.InnerIdeal.τ).loc Cert.InnerIdeal.main_arg5)
      ∧ r.2.mem ((c.tc : Thread Cert.InnerIdeal.nD Cert.InnerIdeal.τ).loc Cert.InnerIdeal.main_arg6) = m ((c.tc : Thread Cert.InnerIdeal.nD Cert.InnerIdeal.τ).loc Cert.InnerIdeal.main_arg6))
      ∧ r.2.sem = fun _ => 0)

def quiescent_InnerIdeal_pre_ffn_finite [hInnerIdeal : Cert.InnerIdeal.Facts] [hPre_ffn_finite : Cert.Pre_ffn_finite.Facts] : Prop :=
  ∀ (m : (ℓ : Loc Cert.InnerIdeal.nD Cert.InnerIdeal.τ Cert.InnerIdeal.sig) → Buf (Elt Ideal) ℓ) (g : Dev Cert.InnerIdeal.nD → PrngReg), Pre_InnerIdeal_ffn_finite m →
    θ_run (Cert.InnerIdeal.defs (F := Ideal)) (onTc (τ := Cert.InnerIdeal.τ) (Cert.InnerIdeal.main (F := Ideal))) ⟨m, fun _ => 0, g⟩ (fun r => (∀ c : Dev Cert.InnerIdeal.nD,
      r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
      ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
      ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
      ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
      ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4)
      ∧ r.2.mem ((c.tc : Thread Cert.InnerIdeal.nD Cert.InnerIdeal.τ).loc Cert.InnerIdeal.main_arg5) = m ((c.tc : Thread Cert.InnerIdeal.nD Cert.InnerIdeal.τ).loc Cert.InnerIdeal.main_arg5)
      ∧ r.2.mem ((c.tc : Thread Cert.InnerIdeal.nD Cert.InnerIdeal.τ).loc Cert.InnerIdeal.main_arg6) = m ((c.tc : Thread Cert.InnerIdeal.nD Cert.InnerIdeal.τ).loc Cert.InnerIdeal.main_arg6))
      ∧ r.2.sem = fun _ => 0)

def quiescent_InnerRefIdeal [hInnerRefIdeal : Cert.InnerRefIdeal.Facts] : Prop :=
  ∀ (m : (ℓ : Loc Cert.InnerRefIdeal.nD Cert.InnerRefIdeal.τ Cert.InnerRefIdeal.sig) → Buf (Elt Ideal) ℓ) (g : Dev Cert.InnerRefIdeal.nD → PrngReg), Pre_InnerRefIdeal m →
    θ_run (Cert.InnerRefIdeal.defs (F := Ideal)) (onTc (τ := Cert.InnerRefIdeal.τ) (Cert.InnerRefIdeal.main (F := Ideal))) ⟨m, fun _ => 0, g⟩ (fun r => (∀ c : Dev Cert.InnerRefIdeal.nD,
      r.2.mem ((c.tc : Thread Cert.InnerRefIdeal.nD Cert.InnerRefIdeal.τ).loc Cert.InnerRefIdeal.main_arg0) = m ((c.tc : Thread Cert.InnerRefIdeal.nD Cert.InnerRefIdeal.τ).loc Cert.InnerRefIdeal.main_arg0)
      ∧ r.2.mem ((c.tc : Thread Cert.InnerRefIdeal.nD Cert.InnerRefIdeal.τ).loc Cert.InnerRefIdeal.main_arg1) = m ((c.tc : Thread Cert.InnerRefIdeal.nD Cert.InnerRefIdeal.τ).loc Cert.InnerRefIdeal.main_arg1)
      ∧ r.2.mem ((c.tc : Thread Cert.InnerRefIdeal.nD Cert.InnerRefIdeal.τ).loc Cert.InnerRefIdeal.main_arg2) = m ((c.tc : Thread Cert.InnerRefIdeal.nD Cert.InnerRefIdeal.τ).loc Cert.InnerRefIdeal.main_arg2)
      ∧ r.2.mem ((c.tc : Thread Cert.InnerRefIdeal.nD Cert.InnerRefIdeal.τ).loc Cert.InnerRefIdeal.main_arg3) = m ((c.tc : Thread Cert.InnerRefIdeal.nD Cert.InnerRefIdeal.τ).loc Cert.InnerRefIdeal.main_arg3)
      ∧ r.2.mem ((c.tc : Thread Cert.InnerRefIdeal.nD Cert.InnerRefIdeal.τ).loc Cert.InnerRefIdeal.main_arg4) = m ((c.tc : Thread Cert.InnerRefIdeal.nD Cert.InnerRefIdeal.τ).loc Cert.InnerRefIdeal.main_arg4)
      ∧ r.2.mem ((c.tc : Thread Cert.InnerRefIdeal.nD Cert.InnerRefIdeal.τ).loc Cert.InnerRefIdeal.main_arg5) = m ((c.tc : Thread Cert.InnerRefIdeal.nD Cert.InnerRefIdeal.τ).loc Cert.InnerRefIdeal.main_arg5)
      ∧ r.2.mem ((c.tc : Thread Cert.InnerRefIdeal.nD Cert.InnerRefIdeal.τ).loc Cert.InnerRefIdeal.main_arg6) = m ((c.tc : Thread Cert.InnerRefIdeal.nD Cert.InnerRefIdeal.τ).loc Cert.InnerRefIdeal.main_arg6))
      ∧ r.2.sem = fun _ => 0)

def quiescent_InnerRefIdeal_pre_ffn_finite [hInnerRefIdeal : Cert.InnerRefIdeal.Facts] [hPre_ffn_finite : Cert.Pre_ffn_finite.Facts] : Prop :=
  ∀ (m : (ℓ : Loc Cert.InnerRefIdeal.nD Cert.InnerRefIdeal.τ Cert.InnerRefIdeal.sig) → Buf (Elt Ideal) ℓ) (g : Dev Cert.InnerRefIdeal.nD → PrngReg), Pre_InnerRefIdeal_ffn_finite m →
    θ_run (Cert.InnerRefIdeal.defs (F := Ideal)) (onTc (τ := Cert.InnerRefIdeal.τ) (Cert.InnerRefIdeal.main (F := Ideal))) ⟨m, fun _ => 0, g⟩ (fun r => (∀ c : Dev Cert.InnerRefIdeal.nD,
      r.2.mem ((c.tc : Thread Cert.InnerRefIdeal.nD Cert.InnerRefIdeal.τ).loc Cert.InnerRefIdeal.main_arg0) = m ((c.tc : Thread Cert.InnerRefIdeal.nD Cert.InnerRefIdeal.τ).loc Cert.InnerRefIdeal.main_arg0)
      ∧ r.2.mem ((c.tc : Thread Cert.InnerRefIdeal.nD Cert.InnerRefIdeal.τ).loc Cert.InnerRefIdeal.main_arg1) = m ((c.tc : Thread Cert.InnerRefIdeal.nD Cert.InnerRefIdeal.τ).loc Cert.InnerRefIdeal.main_arg1)
      ∧ r.2.mem ((c.tc : Thread Cert.InnerRefIdeal.nD Cert.InnerRefIdeal.τ).loc Cert.InnerRefIdeal.main_arg2) = m ((c.tc : Thread Cert.InnerRefIdeal.nD Cert.InnerRefIdeal.τ).loc Cert.InnerRefIdeal.main_arg2)
      ∧ r.2.mem ((c.tc : Thread Cert.InnerRefIdeal.nD Cert.InnerRefIdeal.τ).loc Cert.InnerRefIdeal.main_arg3) = m ((c.tc : Thread Cert.InnerRefIdeal.nD Cert.InnerRefIdeal.τ).loc Cert.InnerRefIdeal.main_arg3)
      ∧ r.2.mem ((c.tc : Thread Cert.InnerRefIdeal.nD Cert.InnerRefIdeal.τ).loc Cert.InnerRefIdeal.main_arg4) = m ((c.tc : Thread Cert.InnerRefIdeal.nD Cert.InnerRefIdeal.τ).loc Cert.InnerRefIdeal.main_arg4)
      ∧ r.2.mem ((c.tc : Thread Cert.InnerRefIdeal.nD Cert.InnerRefIdeal.τ).loc Cert.InnerRefIdeal.main_arg5) = m ((c.tc : Thread Cert.InnerRefIdeal.nD Cert.InnerRefIdeal.τ).loc Cert.InnerRefIdeal.main_arg5)
      ∧ r.2.mem ((c.tc : Thread Cert.InnerRefIdeal.nD Cert.InnerRefIdeal.τ).loc Cert.InnerRefIdeal.main_arg6) = m ((c.tc : Thread Cert.InnerRefIdeal.nD Cert.InnerRefIdeal.τ).loc Cert.InnerRefIdeal.main_arg6))
      ∧ r.2.sem = fun _ => 0)

def preserves_Mix_MixIdeal : Prop :=
  True

def holds_MixIdeal_unchanged_where_shut [hMixIdeal : Cert.MixIdeal.Facts] [hPost_unchanged_where_shut : Cert.Post_unchanged_where_shut.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => ∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ (Cert.Post_unchanged_where_shut.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (r.2.mem ((c.tc : Thread Cert.MixIdeal.nD Cert.MixIdeal.τ).loc Cert.MixIdeal.main_v0))) = (fun _ => 1#1))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v18)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v18) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v66) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Mod_ModIdeal : Prop :=
  True

def algebraic_ModIdeal_ModRefIdeal_pre_mod_finite [hModIdeal : Cert.ModIdeal.Facts] [hModRefIdeal : Cert.ModRefIdeal.Facts] [hPre_mod_finite : Cert.Pre_mod_finite.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal_mod_finite m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v5) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Inner_InnerIdeal : Prop :=
  True

def algebraic_InnerIdeal_InnerRefIdeal_pre_ffn_finite [hInnerIdeal : Cert.InnerIdeal.Facts] [hInnerRefIdeal : Cert.InnerRefIdeal.Facts] [hPre_ffn_finite : Cert.Pre_ffn_finite.Facts] : Prop :=
  ∀ (m : (ℓ : Loc Cert.InnerIdeal.nD Cert.InnerIdeal.τ Cert.InnerIdeal.sig) → Buf (Elt Ideal) ℓ) (g : Dev Cert.InnerIdeal.nD → PrngReg)
    (m' : (ℓ : Loc Cert.InnerRefIdeal.nD Cert.InnerRefIdeal.τ Cert.InnerRefIdeal.sig) → Buf (Elt Ideal) ℓ) (g' : Dev Cert.InnerRefIdeal.nD → PrngReg), Pre_InnerIdeal_ffn_finite m →
    (∀ c : Dev Cert.InnerIdeal.nD,
      m' ((c.tc : Thread Cert.InnerRefIdeal.nD Cert.InnerRefIdeal.τ).loc Cert.InnerRefIdeal.main_arg0) = m ((c.tc : Thread Cert.InnerIdeal.nD Cert.InnerIdeal.τ).loc Cert.InnerIdeal.main_arg0)
      ∧ m' ((c.tc : Thread Cert.InnerRefIdeal.nD Cert.InnerRefIdeal.τ).loc Cert.InnerRefIdeal.main_arg1) = m ((c.tc : Thread Cert.InnerIdeal.nD Cert.InnerIdeal.τ).loc Cert.InnerIdeal.main_arg1)
      ∧ m' ((c.tc : Thread Cert.InnerRefIdeal.nD Cert.InnerRefIdeal.τ).loc Cert.InnerRefIdeal.main_arg2) = m ((c.tc : Thread Cert.InnerIdeal.nD Cert.InnerIdeal.τ).loc Cert.InnerIdeal.main_arg2)
      ∧ m' ((c.tc : Thread Cert.InnerRefIdeal.nD Cert.InnerRefIdeal.τ).loc Cert.InnerRefIdeal.main_arg3) = m ((c.tc : Thread Cert.InnerIdeal.nD Cert.InnerIdeal.τ).loc Cert.InnerIdeal.main_arg3)
      ∧ m' ((c.tc : Thread Cert.InnerRefIdeal.nD Cert.InnerRefIdeal.τ).loc Cert.InnerRefIdeal.main_arg4) = m ((c.tc : Thread Cert.InnerIdeal.nD Cert.InnerIdeal.τ).loc Cert.InnerIdeal.main_arg4)
      ∧ m' ((c.tc : Thread Cert.InnerRefIdeal.nD Cert.InnerRefIdeal.τ).loc Cert.InnerRefIdeal.main_arg5) = m ((c.tc : Thread Cert.InnerIdeal.nD Cert.InnerIdeal.τ).loc Cert.InnerIdeal.main_arg5)
      ∧ m' ((c.tc : Thread Cert.InnerRefIdeal.nD Cert.InnerRefIdeal.τ).loc Cert.InnerRefIdeal.main_arg6) = m ((c.tc : Thread Cert.InnerIdeal.nD Cert.InnerIdeal.τ).loc Cert.InnerIdeal.main_arg6)) →
    ∃ (v0 : (c : Dev Cert.InnerIdeal.nD) → Buf (Elt Ideal) ((c.tc : Thread Cert.InnerIdeal.nD Cert.InnerIdeal.τ).loc Cert.InnerIdeal.main_v18)),
      θ_run (Cert.InnerIdeal.defs (F := Ideal)) (onTc (τ := Cert.InnerIdeal.τ) (Cert.InnerIdeal.main (F := Ideal))) ⟨m, fun _ => 0, g⟩ (fun r => ∀ c : Dev Cert.InnerIdeal.nD,
          r.2.mem ((c.tc : Thread Cert.InnerIdeal.nD Cert.InnerIdeal.τ).loc Cert.InnerIdeal.main_v18) = v0 c
          ∧ r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
          ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
          ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
          ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
          ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4)
          ∧ r.2.mem ((c.tc : Thread Cert.InnerIdeal.nD Cert.InnerIdeal.τ).loc Cert.InnerIdeal.main_arg5) = m ((c.tc : Thread Cert.InnerIdeal.nD Cert.InnerIdeal.τ).loc Cert.InnerIdeal.main_arg5)
          ∧ r.2.mem ((c.tc : Thread Cert.InnerIdeal.nD Cert.InnerIdeal.τ).loc Cert.InnerIdeal.main_arg6) = m ((c.tc : Thread Cert.InnerIdeal.nD Cert.InnerIdeal.τ).loc Cert.InnerIdeal.main_arg6))
      ∧ θ_run (Cert.InnerRefIdeal.defs (F := Ideal)) (onTc (τ := Cert.InnerRefIdeal.τ) (Cert.InnerRefIdeal.main (F := Ideal))) ⟨m', fun _ => 0, g'⟩ (fun r => ∀ c : Dev Cert.InnerRefIdeal.nD,
          r.2.mem ((c.tc : Thread Cert.InnerRefIdeal.nD Cert.InnerRefIdeal.τ).loc Cert.InnerRefIdeal.main_v53) = v0 c
          ∧ r.2.mem ((c.tc : Thread Cert.InnerRefIdeal.nD Cert.InnerRefIdeal.τ).loc Cert.InnerRefIdeal.main_arg0) = m' ((c.tc : Thread Cert.InnerRefIdeal.nD Cert.InnerRefIdeal.τ).loc Cert.InnerRefIdeal.main_arg0)
          ∧ r.2.mem ((c.tc : Thread Cert.InnerRefIdeal.nD Cert.InnerRefIdeal.τ).loc Cert.InnerRefIdeal.main_arg1) = m' ((c.tc : Thread Cert.InnerRefIdeal.nD Cert.InnerRefIdeal.τ).loc Cert.InnerRefIdeal.main_arg1)
          ∧ r.2.mem ((c.tc : Thread Cert.InnerRefIdeal.nD Cert.InnerRefIdeal.τ).loc Cert.InnerRefIdeal.main_arg2) = m' ((c.tc : Thread Cert.InnerRefIdeal.nD Cert.InnerRefIdeal.τ).loc Cert.InnerRefIdeal.main_arg2)
          ∧ r.2.mem ((c.tc : Thread Cert.InnerRefIdeal.nD Cert.InnerRefIdeal.τ).loc Cert.InnerRefIdeal.main_arg3) = m' ((c.tc : Thread Cert.InnerRefIdeal.nD Cert.InnerRefIdeal.τ).loc Cert.InnerRefIdeal.main_arg3)
          ∧ r.2.mem ((c.tc : Thread Cert.InnerRefIdeal.nD Cert.InnerRefIdeal.τ).loc Cert.InnerRefIdeal.main_arg4) = m' ((c.tc : Thread Cert.InnerRefIdeal.nD Cert.InnerRefIdeal.τ).loc Cert.InnerRefIdeal.main_arg4)
          ∧ r.2.mem ((c.tc : Thread Cert.InnerRefIdeal.nD Cert.InnerRefIdeal.τ).loc Cert.InnerRefIdeal.main_arg5) = m' ((c.tc : Thread Cert.InnerRefIdeal.nD Cert.InnerRefIdeal.τ).loc Cert.InnerRefIdeal.main_arg5)
          ∧ r.2.mem ((c.tc : Thread Cert.InnerRefIdeal.nD Cert.InnerRefIdeal.τ).loc Cert.InnerRefIdeal.main_arg6) = m' ((c.tc : Thread Cert.InnerRefIdeal.nD Cert.InnerRefIdeal.τ).loc Cert.InnerRefIdeal.main_arg6))

def Claim : Prop :=
  ∃ (hMix : Cert.Mix.Facts) (hMixIdeal : Cert.MixIdeal.Facts) (hFfn : Cert.Ffn.Facts) (hFfnIdeal : Cert.FfnIdeal.Facts) (hFfnRefIdeal : Cert.FfnRefIdeal.Facts) (hMod : Cert.Mod.Facts) (hModIdeal : Cert.ModIdeal.Facts) (hModRefIdeal : Cert.ModRefIdeal.Facts) (hInner : Cert.Inner.Facts) (hInnerIdeal : Cert.InnerIdeal.Facts) (hInnerRefIdeal : Cert.InnerRefIdeal.Facts) (hPre_ffn_finite : Cert.Pre_ffn_finite.Facts) (hPre_mod_finite : Cert.Pre_mod_finite.Facts) (hPost_unchanged_where_shut : Cert.Post_unchanged_where_shut.Facts),
    quiescent_Mix (hMix := hMix)
    ∧ quiescent_MixIdeal (hMixIdeal := hMixIdeal)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Mod (hMod := hMod)
    ∧ quiescent_ModIdeal (hModIdeal := hModIdeal)
    ∧ quiescent_ModIdeal_pre_mod_finite (hModIdeal := hModIdeal) (hPre_mod_finite := hPre_mod_finite)
    ∧ quiescent_ModRefIdeal (hModRefIdeal := hModRefIdeal)
    ∧ quiescent_ModRefIdeal_pre_mod_finite (hModRefIdeal := hModRefIdeal) (hPre_mod_finite := hPre_mod_finite)
    ∧ quiescent_Inner (hInner := hInner)
    ∧ quiescent_InnerIdeal (hInnerIdeal := hInnerIdeal)
    ∧ quiescent_InnerIdeal_pre_ffn_finite (hInnerIdeal := hInnerIdeal) (hPre_ffn_finite := hPre_ffn_finite)
    ∧ quiescent_InnerRefIdeal (hInnerRefIdeal := hInnerRefIdeal)
    ∧ quiescent_InnerRefIdeal_pre_ffn_finite (hInnerRefIdeal := hInnerRefIdeal) (hPre_ffn_finite := hPre_ffn_finite)
    ∧ preserves_Mix_MixIdeal
    ∧ holds_MixIdeal_unchanged_where_shut (hMixIdeal := hMixIdeal) (hPost_unchanged_where_shut := hPost_unchanged_where_shut)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Mod_ModIdeal
    ∧ algebraic_ModIdeal_ModRefIdeal_pre_mod_finite (hModIdeal := hModIdeal) (hModRefIdeal := hModRefIdeal) (hPre_mod_finite := hPre_mod_finite)
    ∧ preserves_Inner_InnerIdeal
    ∧ algebraic_InnerIdeal_InnerRefIdeal_pre_ffn_finite (hInnerIdeal := hInnerIdeal) (hInnerRefIdeal := hInnerRefIdeal) (hPre_ffn_finite := hPre_ffn_finite)
-- ==== Post_unchanged_where_shut.lean ====
abbrev S8x8192x1024 : Shape := ⟨3, ![8, 8192, 1024]⟩
abbrev S8x6x1024 : Shape := ⟨3, ![8, 6, 1024]⟩
abbrev S1x1024 : Shape := ⟨2, ![1, 1024]⟩
abbrev S1024x3584 : Shape := ⟨2, ![1024, 3584]⟩
abbrev S1024x128 : Shape := ⟨2, ![1024, 128]⟩
abbrev S8x512 : Shape := ⟨2, ![8, 512]⟩
abbrev S1x512 : Shape := ⟨2, ![1, 512]⟩
abbrev S512x512 : Shape := ⟨2, ![512, 512]⟩
abbrev S8x1536 : Shape := ⟨2, ![8, 1536]⟩
abbrev S1x128 : Shape := ⟨2, ![1, 128]⟩
abbrev S1024x1024 : Shape := ⟨2, ![1024, 1024]⟩
abbrev S8x1x1024 : Shape := ⟨3, ![8, 1, 1024]⟩
abbrev S8x1024 : Shape := ⟨2, ![8, 1024]⟩
abbrev S_ : Shape := ⟨0, ![]⟩

class Facts : Prop where
  slices_S8x6x1024_S8x1x1024_0_2_0 : S8x6x1024.Slices ![0, 2, 0] S8x1x1024
  shapeCasts_S8x1x1024_S8x1024 : S8x1x1024.ShapeCasts S8x1024
  bcast_S8x1024_S8x1x1024_0_2 : S8x1024.BroadcastsInDim S8x1x1024 (![0, 2] : Fin 2 → Fin S8x1x1024.rank)
  bcast_S8x1x1024_S8x8192x1024_0_1_2 : S8x1x1024.BroadcastsInDim S8x8192x1024 (![0, 1, 2] : Fin 3 → Fin S8x8192x1024.rank)
  bcast_S_S8x8192x1024 : S_.BroadcastsInDim S8x8192x1024 (![] : Fin 0 → Fin S8x8192x1024.rank)

variable [Facts]

def fn {F : FTy → Type} [FloatOps F] (main_arg0 : FVec F S8x8192x1024 .f32) (main_arg1 : FVec F S8x6x1024 .f32) (main_arg2 : FVec F S1x1024 .f32) (main_arg3 : FVec F S1024x3584 .bf16) (main_arg4 : FVec F S1024x128 .bf16) (main_arg5 : FVec F S8x512 .f32) (main_arg6 : FVec F S1x512 .f32) (main_arg7 : FVec F S512x512 .bf16) (main_arg8 : FVec F S8x1536 .f32) (main_arg9 : FVec F S1x128 .f32) (main_arg10 : FVec F S1x128 .f32) (main_arg11 : FVec F S1x128 .f32) (main_arg12 : FVec F S1024x1024 .bf16) (main_arg13 : FVec F S8x8192x1024 .f32) : IVec S8x8192x1024 1 :=
  let main_v0 : FVec F S8x1x1024 .f32 := (extractStridedSlice S8x1x1024 ![0, 2, 0] · slices_S8x6x1024_S8x1x1024_0_2_0) main_arg1
  let main_v1 : FVec F S8x1024 .f32 := shapeCast S8x1024 main_v0 shapeCasts_S8x1x1024_S8x1024
  let main_v2 : FVec F S8x1x1024 .f32 := broadcastInDim S8x1x1024 ![0, 2] bcast_S8x1024_S8x1x1024_0_2 main_v1
  let main_v3 : FVec F S8x8192x1024 .f32 := broadcastInDim S8x8192x1024 ![0, 1, 2] bcast_S8x1x1024_S8x8192x1024_0_1_2 main_v2
  let main_cst : FVec F S_ .f32 := constant S_ .f32 0x00000000#32
  let main_v4 : FVec F S8x8192x1024 .f32 := broadcastInDim S8x8192x1024 ![] bcast_S_S8x8192x1024 main_cst
  let main_v5 : IVec S8x8192x1024 1 := cmpf .une main_v3 main_v4
  let main_v6 : IVec S8x8192x1024 1 := cmpf .oeq main_arg13 main_arg0
  let main_v7 : IVec S8x8192x1024 1 := ori main_v5 main_v6
  main_v7
-- ==== Pre_ffn_finite.lean ====
abbrev S8x8192x1024 : Shape := ⟨3, ![8, 8192, 1024]⟩
abbrev S8x6x1024 : Shape := ⟨3, ![8, 6, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩

class Facts : Prop where
  bcast_S_S8x8192x1024 : S_.BroadcastsInDim S8x8192x1024 (![] : Fin 0 → Fin S8x8192x1024.rank)
  bcast_S_S8x6x1024 : S_.BroadcastsInDim S8x6x1024 (![] : Fin 0 → Fin S8x6x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S3x5632 : S_.BroadcastsInDim S3x5632 (![] : Fin 0 → Fin S3x5632.rank)

variable [Facts]

def fn {F : FTy → Type} [FloatOps F] (main_arg0 : FVec F S8x8192x1024 .f32) (main_arg1 : FVec F S8x6x1024 .f32) (main_arg2 : FVec F S1024 .f32) (main_arg3 : FVec F S1024x5632 .f32) (main_arg4 : FVec F S3x5632 .f32) (main_arg5 : FVec F S2816x1024 .f32) (main_arg6 : FVec F S1024 .f32) : IVec S8x8192x1024 1 × IVec S8x6x1024 1 × IVec S1024 1 × IVec S1024x5632 1 × IVec S3x5632 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_v3 : FVec F S8x6x1024 .f32 := Host.absf main_arg1
  let main_cst_0 : FVec F S_ .f32 := constant S_ .f32 0x7F800000#32
  let main_v4 : FVec F S8x6x1024 .f32 := broadcastInDim S8x6x1024 ![] bcast_S_S8x6x1024 main_cst_0
  let main_v5 : IVec S8x6x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S3x5632 .f32 := Host.absf main_arg4
  let main_cst_3 : FVec F S_ .f32 := constant S_ .f32 0x7F800000#32
  let main_v13 : FVec F S3x5632 .f32 := broadcastInDim S3x5632 ![] bcast_S_S3x5632 main_cst_3
  let main_v14 : IVec S3x5632 1 := cmpf .olt main_v12 main_v13
  (main_v2, main_v5, main_v8, main_v11, main_v14)
-- ==== Pre_mod_finite.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩

class Facts : Prop where
  bcast_S_S8x1024 : S_.BroadcastsInDim S8x1024 (![] : Fin 0 → Fin S8x1024.rank)
  bcast_S_S4x1024x6144 : S_.BroadcastsInDim S4x1024x6144 (![] : Fin 0 → Fin S4x1024x6144.rank)

variable [Facts]

def fn {F : FTy → Type} [FloatOps F] (main_arg0 : FVec F S8x1024 .f32) (main_arg1 : FVec F S4x1024x6144 .f32) (main_arg2 : FVec F S4x6144 .f32) : IVec S8x1024 1 × IVec S4x1024x6144 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_v3 : FVec F S4x1024x6144 .f32 := Host.absf main_arg1
  let main_cst_0 : FVec F S_ .f32 := constant S_ .f32 0x7F800000#32
  let main_v4 : FVec F S4x1024x6144 .f32 := broadcastInDim S4x1024x6144 ![] bcast_S_S4x1024x6144 main_cst_0
  let main_v5 : IVec S4x1024x6144 1 := cmpf .olt main_v3 main_v4
  (main_v2, main_v5)
-- ==== Mix.lean ====
abbrev S8x8192x1024 : Shape := ⟨3, ![8, 8192, 1024]⟩
abbrev S8x6x1024 : Shape := ⟨3, ![8, 6, 1024]⟩
abbrev S1x1024 : Shape := ⟨2, ![1, 1024]⟩
abbrev S1024x3584 : Shape := ⟨2, ![1024, 3584]⟩
abbrev S1024x128 : Shape := ⟨2, ![1024, 128]⟩
abbrev S8x512 : Shape := ⟨2, ![8, 512]⟩
abbrev S1x512 : Shape := ⟨2, ![1, 512]⟩
abbrev S512x512 : Shape := ⟨2, ![512, 512]⟩
abbrev S8x1536 : Shape := ⟨2, ![8, 1536]⟩
abbrev S1x128 : Shape := ⟨2, ![1, 128]⟩
abbrev S1024x1024 : Shape := ⟨2, ![1024, 1024]⟩
abbrev S1x512x1024 : Shape := ⟨3, ![1, 512, 1024]⟩
abbrev S1x6x1024 : Shape := ⟨3, ![1, 6, 1024]⟩
abbrev S512x1024 : Shape := ⟨2, ![512, 1024]⟩
abbrev S3x8x512 : Shape := ⟨3, ![3, 8, 512]⟩
abbrev S2x8x4x64x128 : Shape := ⟨5, ![2, 8, 4, 64, 128]⟩
abbrev S2x512x128 : Shape := ⟨3, ![2, 512, 128]⟩
abbrev S2x512x512 : Shape := ⟨3, ![2, 512, 512]⟩
abbrev S4x128x128 : Shape := ⟨3, ![4, 128, 128]⟩
abbrev S2x32x64x128 : Shape := ⟨4, ![2, 32, 64, 128]⟩
abbrev S2x32x128x128 : Shape := ⟨4, ![2, 32, 128, 128]⟩
abbrev S2x32x64x64 : Shape := ⟨4, ![2, 32, 64, 64]⟩
abbrev S2x32x1x128 : Shape := ⟨4, ![2, 32, 1, 128]⟩
abbrev S8x4x64x128 : Shape := ⟨4, ![8, 4, 64, 128]⟩
abbrev S32x64x64 : Shape := ⟨3, ![32, 64, 64]⟩
abbrev S1x512x512 : Shape := ⟨3, ![1, 512, 512]⟩
abbrev S1x4x128x128 : Shape := ⟨4, ![1, 4, 128, 128]⟩
abbrev S1x4x64x128 : Shape := ⟨4, ![1, 4, 64, 128]⟩
abbrev S4x64x128 : Shape := ⟨3, ![4, 64, 128]⟩
abbrev S1x4x64x64 : Shape := ⟨4, ![1, 4, 64, 64]⟩
abbrev S4x64x64 : Shape := ⟨3, ![4, 64, 64]⟩
abbrev S1x4x1x128 : Shape := ⟨4, ![1, 4, 1, 128]⟩
abbrev S4x1x128 : Shape := ⟨3, ![4, 1, 128]⟩
abbrev S1x8x4x64x128 : Shape := ⟨5, ![1, 8, 4, 64, 128]⟩
abbrev S32x64x128 : Shape := ⟨3, ![32, 64, 128]⟩
abbrev S1x512x128 : Shape := ⟨3, ![1, 512, 128]⟩
abbrev S512x128 : Shape := ⟨2, ![512, 128]⟩
abbrev S8x64x128 : Shape := ⟨3, ![8, 64, 128]⟩
abbrev S8x64x64 : Shape := ⟨3, ![8, 64, 64]⟩
abbrev S8x128x64 : Shape := ⟨3, ![8, 128, 64]⟩
abbrev S1x64x1 : Shape := ⟨3, ![1, 64, 1]⟩
abbrev S64x1 : Shape := ⟨2, ![64, 1]⟩
abbrev S32x64x1 : Shape := ⟨3, ![32, 64, 1]⟩
abbrev S1x1x64 : Shape := ⟨3, ![1, 1, 64]⟩
abbrev S1x64 : Shape := ⟨2, ![1, 64]⟩
abbrev S32x1x64 : Shape := ⟨3, ![32, 1, 64]⟩
abbrev S32x1x1 : Shape := ⟨3, ![32, 1, 1]⟩
abbrev S32x128x128 : Shape := ⟨3, ![32, 128, 128]⟩
abbrev S32x128x64 : Shape := ⟨3, ![32, 128, 64]⟩
abbrev S6x1024 : Shape := ⟨2, ![6, 1024]⟩
abbrev S512 : Shape := ⟨1, ![512]⟩
abbrev S512x1 : Shape := ⟨2, ![512, 1]⟩
abbrev S1024x512 : Shape := ⟨2, ![1024, 512]⟩
abbrev S504x512 : Shape := ⟨2, ![504, 512]⟩
abbrev S1x8x512 : Shape := ⟨3, ![1, 8, 512]⟩
abbrev S1x8x1x64x128 : Shape := ⟨5, ![1, 8, 1, 64, 128]⟩
abbrev S32x64x256 : Shape := ⟨3, ![32, 64, 256]⟩
abbrev S1x32x64x128 : Shape := ⟨4, ![1, 32, 64, 128]⟩
abbrev S1x32x128x128 : Shape := ⟨4, ![1, 32, 128, 128]⟩
abbrev S1x32x64x64 : Shape := ⟨4, ![1, 32, 64, 64]⟩
abbrev S32x1x128 : Shape := ⟨3, ![32, 1, 128]⟩
abbrev S1x32x1x128 : Shape := ⟨4, ![1, 32, 1, 128]⟩
abbrev S8x1x64x128 : Shape := ⟨4, ![8, 1, 64, 128]⟩

abbrev nBuf : Space → Nat
  | .hbm => 14
  | .vmem => 37
  | .smem => 0
  | _ => 0

abbrev bufTy : (tb : Table) → Fin (tcTables nBuf tb) → BufTy
  | .hbm, ⟨0, _⟩ => ⟨S8x8192x1024, .f32⟩
  | .hbm, ⟨1, _⟩ => ⟨S8x6x1024, .f32⟩
  | .hbm, ⟨2, _⟩ => ⟨S1x1024, .f32⟩
  | .hbm, ⟨3, _⟩ => ⟨S1024x3584, .bf16⟩
  | .hbm, ⟨4, _⟩ => ⟨S1024x128, .bf16⟩
  | .hbm, ⟨5, _⟩ => ⟨S8x512, .f32⟩
  | .hbm, ⟨6, _⟩ => ⟨S1x512, .f32⟩
  | .hbm, ⟨7, _⟩ => ⟨S512x512, .bf16⟩
  | .hbm, ⟨8, _⟩ => ⟨S8x1536, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S1024x1024, .bf16⟩
  | .hbm, ⟨13, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x3584, .bf16⟩
  | .local _ .vmem, ⟨10, _⟩ => ⟨S1024x128, .bf16⟩
  | .local _ .vmem, ⟨11, _⟩ => ⟨S8x512, .f32⟩
  | .local _ .vmem, ⟨12, _⟩ => ⟨S1x512, .f32⟩
  | .local _ .vmem, ⟨13, _⟩ => ⟨S512x512, .bf16⟩
  | .local _ .vmem, ⟨14, _⟩ => ⟨S8x1536, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1024x1024, .bf16⟩
  | .local _ .vmem, ⟨19, _⟩ => ⟨S1x512x1024, .f32⟩
  | .local _ .vmem, ⟨20, _⟩ => ⟨S1x512x1024, .f32⟩
  | .local _ .vmem, ⟨21, _⟩ => ⟨S512x1024, .bf16⟩
  | .local _ .vmem, ⟨22, _⟩ => ⟨S8x512, .f32⟩
  | .local _ .vmem, ⟨23, _⟩ => ⟨S3x8x512, .f32⟩
  | .local _ .vmem, ⟨24, _⟩ => ⟨S2x8x4x64x128, .f32⟩
  | .local _ .vmem, ⟨25, _⟩ => ⟨S2x8x4x64x128, .f32⟩
  | .local _ .vmem, ⟨26, _⟩ => ⟨S2x8x4x64x128, .f32⟩
  | .local _ .vmem, ⟨27, _⟩ => ⟨S2x512x128, .f32⟩
  | .local _ .vmem, ⟨28, _⟩ => ⟨S2x512x512, .bf16⟩
  | .local _ .vmem, ⟨29, _⟩ => ⟨S2x512x512, .bf16⟩
  | .local _ .vmem, ⟨30, _⟩ => ⟨S4x128x128, .f32⟩
  | .local _ .vmem, ⟨31, _⟩ => ⟨S2x32x64x128, .f32⟩
  | .local _ .vmem, ⟨32, _⟩ => ⟨S2x32x128x128, .f32⟩
  | .local _ .vmem, ⟨33, _⟩ => ⟨S2x32x64x64, .f32⟩
  | .local _ .vmem, ⟨34, _⟩ => ⟨S2x32x64x128, .f32⟩
  | .local _ .vmem, ⟨35, _⟩ => ⟨S2x32x1x128, .f32⟩
  | .local _ .vmem, ⟨36, _⟩ => ⟨S8x4x64x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_scratch9 : Ref sig .tc := ⟨.vmem, 30, rfl⟩
abbrev cc0_scratch10 : Ref sig .tc := ⟨.vmem, 31, rfl⟩
abbrev cc0_scratch11 : Ref sig .tc := ⟨.vmem, 32, rfl⟩
abbrev cc0_scratch12 : Ref sig .tc := ⟨.vmem, 33, rfl⟩
abbrev cc0_scratch13 : Ref sig .tc := ⟨.vmem, 34, rfl⟩
abbrev cc0_scratch14 : Ref sig .tc := ⟨.vmem, 35, rfl⟩
abbrev cc0_scratch15 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![130], ![false]⟩

def k0_cond1 (i : grid0.Coords) : BitVec 1 :=
  let arg0 : BitVec 32 := BitVec.ofNat 32 (i 0).val
  let c2_i32 : BitVec 32 := 2#32
  let v0 : BitVec 32 := Scalar.remsi arg0 c2_i32
  let c0_i32 : BitVec 32 := 0#32
  let v1 : BitVec 1 := Scalar.cmpi .eq v0 c0_i32
  let v2 : BitVec 32 := Scalar.extui v1
  let c0_i32_0 : BitVec 32 := 0#32
  let v3 : BitVec 1 := Scalar.cmpi .ne v2 c0_i32_0
  v3

def k0_cond3 (i : grid0.Coords) : BitVec 1 :=
  let arg0 : BitVec 32 := BitVec.ofNat 32 (i 0).val
  let c2_i32_1 : BitVec 32 := 2#32
  let v4 : BitVec 32 := Scalar.remsi arg0 c2_i32_1
  let c1_i32 : BitVec 32 := 1#32
  let v5 : BitVec 1 := Scalar.cmpi .eq v4 c1_i32
  let v6 : BitVec 32 := Scalar.extui v5
  let c0_i32_2 : BitVec 32 := 0#32
  let v7 : BitVec 1 := Scalar.cmpi .ne v6 c0_i32_2
  v7

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c16_i32 : BitVec 32 := 16#32
  let v3 : BitVec 32 := Scalar.divsi v2 c16_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c16_i32 c0_i32_3
  let v10 : BitVec 32 := Scalar.extui v9
  let c0_i32_4 : BitVec 32 := 0#32
  let v11 : BitVec 1 := Scalar.cmpi .slt c16_i32 c0_i32_4
  let v12 : BitVec 32 := Scalar.extui v11
  let v13 : BitVec 32 := Scalar.subi v10 v12
  let v14 : BitVec 1 := Scalar.cmpi .ne v8 v13
  let v15 : BitVec 32 := Scalar.remsi v2 c16_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c16_i32_6 : BitVec 32 := 16#32
  let c0_i32_7 : BitVec 32 := 0#32
  let v20 : BitVec 1 := Scalar.cmpi .eq c16_i32_6 c0_i32_7
  let c1_i32_8 : BitVec 32 := 1#32
  let v21 : BitVec 32 := Scalar.select v20 c1_i32_8 c16_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c16_i32 : BitVec 32 := 16#32
  let v3 : BitVec 32 := Scalar.divsi v2 c16_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c16_i32 c0_i32_3
  let v10 : BitVec 32 := Scalar.extui v9
  let c0_i32_4 : BitVec 32 := 0#32
  let v11 : BitVec 1 := Scalar.cmpi .slt c16_i32 c0_i32_4
  let v12 : BitVec 32 := Scalar.extui v11
  let v13 : BitVec 32 := Scalar.subi v10 v12
  let v14 : BitVec 1 := Scalar.cmpi .ne v8 v13
  let v15 : BitVec 32 := Scalar.remsi v2 c16_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c16_i32_6 : BitVec 32 := 16#32
  let c0_i32_7 : BitVec 32 := 0#32
  let v20 : BitVec 1 := Scalar.cmpi .eq c16_i32_6 c0_i32_7
  let c1_i32_8 : BitVec 32 := 1#32
  let v21 : BitVec 32 := Scalar.select v20 c1_i32_8 c16_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c0_i32_14 : BitVec 32 := 0#32
  ![v19.toNat, c0_i32_12.toNat, c0_i32_13.toNat]

def cc0_transform_2 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c127_i32 : BitVec 32 := 127#32
  let v1 : BitVec 32 := Scalar.maxsi c0_i32 v0
  let v2 : BitVec 32 := Scalar.minsi c127_i32 v1
  let c16_i32 : BitVec 32 := 16#32
  let v3 : BitVec 32 := Scalar.divsi v2 c16_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32 c0_i32_2
  let v10 : BitVec 32 := Scalar.extui v9
  let c0_i32_3 : BitVec 32 := 0#32
  let v11 : BitVec 1 := Scalar.cmpi .slt c16_i32 c0_i32_3
  let v12 : BitVec 32 := Scalar.extui v11
  let v13 : BitVec 32 := Scalar.subi v10 v12
  let v14 : BitVec 1 := Scalar.cmpi .ne v8 v13
  let v15 : BitVec 32 := Scalar.remsi v2 c16_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c16_i32_5 : BitVec 32 := 16#32
  let c0_i32_6 : BitVec 32 := 0#32
  let v20 : BitVec 1 := Scalar.cmpi .eq c16_i32_5 c0_i32_6
  let c1_i32_7 : BitVec 32 := 1#32
  let v21 : BitVec 32 := Scalar.select v20 c1_i32_7 c16_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, v29.toNat, c0_i32_11.toNat]

def cc0_transform_3 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c127_i32 : BitVec 32 := 127#32
  let v1 : BitVec 32 := Scalar.maxsi c0_i32 v0
  let v2 : BitVec 32 := Scalar.minsi c127_i32 v1
  let c16_i32 : BitVec 32 := 16#32
  let v3 : BitVec 32 := Scalar.divsi v2 c16_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32 c0_i32_2
  let v10 : BitVec 32 := Scalar.extui v9
  let c0_i32_3 : BitVec 32 := 0#32
  let v11 : BitVec 1 := Scalar.cmpi .slt c16_i32 c0_i32_3
  let v12 : BitVec 32 := Scalar.extui v11
  let v13 : BitVec 32 := Scalar.subi v10 v12
  let v14 : BitVec 1 := Scalar.cmpi .ne v8 v13
  let v15 : BitVec 32 := Scalar.remsi v2 c16_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c16_i32_5 : BitVec 32 := 16#32
  let c0_i32_6 : BitVec 32 := 0#32
  let v20 : BitVec 1 := Scalar.cmpi .eq c16_i32_5 c0_i32_6
  let c1_i32_7 : BitVec 32 := 1#32
  let v21 : BitVec 32 := Scalar.select v20 c1_i32_7 c16_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  let c0_i32_13 : BitVec 32 := 0#32
  ![v19.toNat, c0_i32_11.toNat, c0_i32_12.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c127_i32 : BitVec 32 := 127#32
  let v1 : BitVec 32 := Scalar.maxsi c0_i32 v0
  let v2 : BitVec 32 := Scalar.minsi c127_i32 v1
  let c16_i32 : BitVec 32 := 16#32
  let v3 : BitVec 32 := Scalar.divsi v2 c16_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32 c0_i32_2
  let v10 : BitVec 32 := Scalar.extui v9
  let c0_i32_3 : BitVec 32 := 0#32
  let v11 : BitVec 1 := Scalar.cmpi .slt c16_i32 c0_i32_3
  let v12 : BitVec 32 := Scalar.extui v11
  let v13 : BitVec 32 := Scalar.subi v10 v12
  let v14 : BitVec 1 := Scalar.cmpi .ne v8 v13
  let v15 : BitVec 32 := Scalar.remsi v2 c16_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c16_i32_5 : BitVec 32 := 16#32
  let c0_i32_6 : BitVec 32 := 0#32
  let v20 : BitVec 1 := Scalar.cmpi .eq c16_i32_5 c0_i32_6
  let c1_i32_7 : BitVec 32 := 1#32
  let v21 : BitVec 32 := Scalar.select v20 c1_i32_7 c16_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, v29.toNat, c0_i32_11.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Ffn.lean ====
abbrev S8x8192x1024 : Shape := ⟨3, ![8, 8192, 1024]⟩
abbrev S8x6x1024 : Shape := ⟨3, ![8, 6, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S1024x2816 : Shape := ⟨2, ![1024, 2816]⟩
abbrev S1024x11x256 : Shape := ⟨3, ![1024, 11, 256]⟩
abbrev S1024x11x512 : Shape := ⟨3, ![1024, 11, 512]⟩
abbrev S11x1024x512 : Shape := ⟨3, ![11, 1024, 512]⟩
abbrev S3x2816 : Shape := ⟨2, ![3, 2816]⟩
abbrev S3x11x256 : Shape := ⟨3, ![3, 11, 256]⟩
abbrev S3x11x512 : Shape := ⟨3, ![3, 11, 512]⟩
abbrev S11x3x512 : Shape := ⟨3, ![11, 3, 512]⟩
abbrev S_ : Shape := ⟨0, ![]⟩
abbrev S11x8x512 : Shape := ⟨3, ![11, 8, 512]⟩
abbrev S11x256x1024 : Shape := ⟨3, ![11, 256, 1024]⟩
abbrev S1x1024 : Shape := ⟨2, ![1, 1024]⟩
abbrev S1x256x1024 : Shape := ⟨3, ![1, 256, 1024]⟩
abbrev S1x6x1024 : Shape := ⟨3, ![1, 6, 1024]⟩
abbrev S256x1024 : Shape := ⟨2, ![256, 1024]⟩
abbrev S2x256x512 : Shape := ⟨3, ![2, 256, 512]⟩
abbrev S256x512 : Shape := ⟨2, ![256, 512]⟩
abbrev S6x1024 : Shape := ⟨2, ![6, 1024]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S1x256x512 : Shape := ⟨3, ![1, 256, 512]⟩
abbrev S1x8x512 : Shape := ⟨3, ![1, 8, 512]⟩
abbrev S8x512 : Shape := ⟨2, ![8, 512]⟩
abbrev S1x32x512 : Shape := ⟨3, ![1, 32, 512]⟩
abbrev S32x512 : Shape := ⟨2, ![32, 512]⟩
abbrev S40x512 : Shape := ⟨2, ![40, 512]⟩
abbrev S1x512 : Shape := ⟨2, ![1, 512]⟩
abbrev S32x256 : Shape := ⟨2, ![32, 256]⟩
abbrev S2x256x1024 : Shape := ⟨3, ![2, 256, 1024]⟩
abbrev S512x1024 : Shape := ⟨2, ![512, 1024]⟩
abbrev S256x256 : Shape := ⟨2, ![256, 256]⟩

abbrev nBuf : Space → Nat
  | .hbm => 28
  | .vmem => 16
  | .smem => 0
  | _ => 0

abbrev bufTy : (tb : Table) → Fin (tcTables nBuf tb) → BufTy
  | .hbm, ⟨0, _⟩ => ⟨S8x8192x1024, .f32⟩
  | .hbm, ⟨1, _⟩ => ⟨S8x6x1024, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S2816x1024, .f32⟩
  | .hbm, ⟨6, _⟩ => ⟨S1024, .f32⟩
  | .hbm, ⟨7, _⟩ => ⟨S1024x2816, .f32⟩
  | .hbm, ⟨8, _⟩ => ⟨S1024x11x256, .f32⟩
  | .hbm, ⟨9, _⟩ => ⟨S1024x2816, .f32⟩
  | .hbm, ⟨10, _⟩ => ⟨S1024x11x256, .f32⟩
  | .hbm, ⟨11, _⟩ => ⟨S1024x11x512, .f32⟩
  | .hbm, ⟨12, _⟩ => ⟨S11x1024x512, .f32⟩
  | .hbm, ⟨13, _⟩ => ⟨S11x1024x512, .bf16⟩
  | .hbm, ⟨14, _⟩ => ⟨S3x2816, .f32⟩
  | .hbm, ⟨15, _⟩ => ⟨S3x11x256, .f32⟩
  | .hbm, ⟨16, _⟩ => ⟨S3x2816, .f32⟩
  | .hbm, ⟨17, _⟩ => ⟨S3x11x256, .f32⟩
  | .hbm, ⟨18, _⟩ => ⟨S3x11x512, .f32⟩
  | .hbm, ⟨19, _⟩ => ⟨S11x3x512, .f32⟩
  | .hbm, ⟨20, _⟩ => ⟨S_, .i32⟩
  | .hbm, ⟨21, _⟩ => ⟨S_, .f32⟩
  | .hbm, ⟨22, _⟩ => ⟨S11x8x512, .f32⟩
  | .hbm, ⟨23, _⟩ => ⟨S11x256x1024, .f32⟩
  | .hbm, ⟨24, _⟩ => ⟨S11x256x1024, .bf16⟩
  | .hbm, ⟨25, _⟩ => ⟨S1x1024, .f32⟩
  | .hbm, ⟨26, _⟩ => ⟨S1x1024, .f32⟩
  | .hbm, ⟨27, _⟩ => ⟨S8x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S11x1024x512, .bf16⟩
  | .local _ .vmem, ⟨6, _⟩ => ⟨S11x8x512, .f32⟩
  | .local _ .vmem, ⟨7, _⟩ => ⟨S11x256x1024, .bf16⟩
  | .local _ .vmem, ⟨8, _⟩ => ⟨S1x1024, .f32⟩
  | .local _ .vmem, ⟨9, _⟩ => ⟨S1x256x1024, .f32⟩
  | .local _ .vmem, ⟨10, _⟩ => ⟨S1x256x1024, .f32⟩
  | .local _ .vmem, ⟨11, _⟩ => ⟨S256x1024, .bf16⟩
  | .local _ .vmem, ⟨12, _⟩ => ⟨S256x1024, .f32⟩
  | .local _ .vmem, ⟨13, _⟩ => ⟨S11x8x512, .f32⟩
  | .local _ .vmem, ⟨14, _⟩ => ⟨S2x256x512, .f32⟩
  | .local _ .vmem, ⟨15, _⟩ => ⟨S256x512, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S11x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S11x8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S11x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnRefIdeal.lean ====
abbrev S8x8192x1024 : Shape := ⟨3, ![8, 8192, 1024]⟩
abbrev S8x6x1024 : Shape := ⟨3, ![8, 6, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S8x1x1024 : Shape := ⟨3, ![8, 1, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5632 : Shape := ⟨3, ![8, 8192, 5632]⟩
abbrev S8x8194x5632 : Shape := ⟨3, ![8, 8194, 5632]⟩
abbrev S1x5632 : Shape := ⟨2, ![1, 5632]⟩
abbrev S5632 : Shape := ⟨1, ![5632]⟩
abbrev S1x1x5632 : Shape := ⟨3, ![1, 1, 5632]⟩
abbrev S8x8192x2816 : Shape := ⟨3, ![8, 8192, 2816]⟩

abbrev nBuf : Space → Nat
  | .hbm => 92
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x6x1024, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S2816x1024, .f32⟩
  | .hbm, ⟨6, _⟩ => ⟨S1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x8192x1024, .f32⟩
  | .hbm, ⟨11, _⟩ => ⟨S_, .f32⟩
  | .hbm, ⟨12, _⟩ => ⟨S8x8192, .f32⟩
  | .hbm, ⟨13, _⟩ => ⟨S8x8192x1, .f32⟩
  | .hbm, ⟨14, _⟩ => ⟨S_, .f32⟩
  | .hbm, ⟨15, _⟩ => ⟨S8x8192x1, .f32⟩
  | .hbm, ⟨16, _⟩ => ⟨S8x8192x1, .f32⟩
  | .hbm, ⟨17, _⟩ => ⟨S_, .f32⟩
  | .hbm, ⟨18, _⟩ => ⟨S8x8192x1, .f32⟩
  | .hbm, ⟨19, _⟩ => ⟨S8x8192x1, .f32⟩
  | .hbm, ⟨20, _⟩ => ⟨S8x8192x1, .f32⟩
  | .hbm, ⟨21, _⟩ => ⟨S8x8192x1024, .f32⟩
  | .hbm, ⟨22, _⟩ => ⟨S8x8192x1024, .f32⟩
  | .hbm, ⟨23, _⟩ => ⟨S1x1x1024, .f32⟩
  | .hbm, ⟨24, _⟩ => ⟨S8x8192x1024, .f32⟩
  | .hbm, ⟨25, _⟩ => ⟨S8x8192x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x8192x1024, .f32⟩
  | .hbm, ⟨30, _⟩ => ⟨S8x8192x1024, .f32⟩
  | .hbm, ⟨31, _⟩ => ⟨S8x8192x1024, .f32⟩
  | .hbm, ⟨32, _⟩ => ⟨S8x8192x1024, .f32⟩
  | .hbm, ⟨33, _⟩ => ⟨S8x8192x5632, .f32⟩
  | .hbm, ⟨34, _⟩ => ⟨S_, .i32⟩
  | .hbm, ⟨35, _⟩ => ⟨S_, .f32⟩
  | .hbm, ⟨36, _⟩ => ⟨S8x8194x5632, .f32⟩
  | .hbm, ⟨37, _⟩ => ⟨S8x8192x5632, .f32⟩
  | .hbm, ⟨38, _⟩ => ⟨S1x5632, .f32⟩
  | .hbm, ⟨39, _⟩ => ⟨S5632, .f32⟩
  | .hbm, ⟨40, _⟩ => ⟨S1x1x5632, .f32⟩
  | .hbm, ⟨41, _⟩ => ⟨S8x8192x5632, .f32⟩
  | .hbm, ⟨42, _⟩ => ⟨S8x8192x5632, .f32⟩
  | .hbm, ⟨43, _⟩ => ⟨S_, .f32⟩
  | .hbm, ⟨44, _⟩ => ⟨S8x8192x5632, .f32⟩
  | .hbm, ⟨45, _⟩ => ⟨S8x8192x5632, .f32⟩
  | .hbm, ⟨46, _⟩ => ⟨S8x8192x5632, .f32⟩
  | .hbm, ⟨47, _⟩ => ⟨S1x5632, .f32⟩
  | .hbm, ⟨48, _⟩ => ⟨S5632, .f32⟩
  | .hbm, ⟨49, _⟩ => ⟨S1x1x5632, .f32⟩
  | .hbm, ⟨50, _⟩ => ⟨S8x8192x5632, .f32⟩
  | .hbm, ⟨51, _⟩ => ⟨S8x8192x5632, .f32⟩
  | .hbm, ⟨52, _⟩ => ⟨S8x8192x5632, .f32⟩
  | .hbm, ⟨53, _⟩ => ⟨S8x8192x5632, .f32⟩
  | .hbm, ⟨54, _⟩ => ⟨S1x5632, .f32⟩
  | .hbm, ⟨55, _⟩ => ⟨S5632, .f32⟩
  | .hbm, ⟨56, _⟩ => ⟨S1x1x5632, .f32⟩
  | .hbm, ⟨57, _⟩ => ⟨S8x8192x5632, .f32⟩
  | .hbm, ⟨58, _⟩ => ⟨S8x8192x5632, .f32⟩
  | .hbm, ⟨59, _⟩ => ⟨S8x8192x5632, .f32⟩
  | .hbm, ⟨60, _⟩ => ⟨S8x8192x2816, .f32⟩
  | .hbm, ⟨61, _⟩ => ⟨S8x8192x2816, .f32⟩
  | .hbm, ⟨62, _⟩ => ⟨S8x8192x2816, .f32⟩
  | .hbm, ⟨63, _⟩ => ⟨S8x8192x2816, .f32⟩
  | .hbm, ⟨64, _⟩ => ⟨S_, .f32⟩
  | .hbm, ⟨65, _⟩ => ⟨S8x8192x2816, .f32⟩
  | .hbm, ⟨66, _⟩ => ⟨S8x8192x2816, .f32⟩
  | .hbm, ⟨67, _⟩ => ⟨S_, .f32⟩
  | .hbm, ⟨68, _⟩ => ⟨S8x8192x2816, .f32⟩
  | .hbm, ⟨69, _⟩ => ⟨S8x8192x2816, .f32⟩
  | .hbm, ⟨70, _⟩ => ⟨S8x8192x2816, .f32⟩
  | .hbm, ⟨71, _⟩ => ⟨S8x8192x2816, .f32⟩
  | .hbm, ⟨72, _⟩ => ⟨S8x8192x1024, .f32⟩
  | .hbm, ⟨73, _⟩ => ⟨S8x8192x1024, .f32⟩
  | .hbm, ⟨74, _⟩ => ⟨S8x8192x1024, .f32⟩
  | .hbm, ⟨75, _⟩ => ⟨S8x8192x1024, .f32⟩
  | .hbm, ⟨76, _⟩ => ⟨S8x8192x1024, .f32⟩
  | .hbm, ⟨77, _⟩ => ⟨S_, .f32⟩
  | .hbm, ⟨78, _⟩ => ⟨S8x8192, .f32⟩
  | .hbm, ⟨79, _⟩ => ⟨S8x8192x1, .f32⟩
  | .hbm, ⟨80, _⟩ => ⟨S_, .f32⟩
  | .hbm, ⟨81, _⟩ => ⟨S8x8192x1, .f32⟩
  | .hbm, ⟨82, _⟩ => ⟨S8x8192x1, .f32⟩
  | .hbm, ⟨83, _⟩ => ⟨S_, .f32⟩
  | .hbm, ⟨84, _⟩ => ⟨S8x8192x1, .f32⟩
  | .hbm, ⟨85, _⟩ => ⟨S8x8192x1, .f32⟩
  | .hbm, ⟨86, _⟩ => ⟨S8x8192x1, .f32⟩
  | .hbm, ⟨87, _⟩ => ⟨S8x8192x1024, .f32⟩
  | .hbm, ⟨88, _⟩ => ⟨S8x8192x1024, .f32⟩
  | .hbm, ⟨89, _⟩ => ⟨S1x1x1024, .f32⟩
  | .hbm, ⟨90, _⟩ => ⟨S8x8192x1024, .f32⟩
  | .hbm, ⟨91, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_4 : Ref sig .tc := ⟨.hbm, 77, rfl⟩
abbrev main_v55 : Ref sig .tc := ⟨.hbm, 78, rfl⟩
abbrev main_v56 : Ref sig .tc := ⟨.hbm, 79, rfl⟩
abbrev main_cst_5 : Ref sig .tc := ⟨.hbm, 80, rfl⟩
abbrev main_v57 : Ref sig .tc := ⟨.hbm, 81, rfl⟩
abbrev main_v58 : Ref sig .tc := ⟨.hbm, 82, rfl⟩
abbrev main_cst_6 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]
-- ==== Mod.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S4x6144x8 : Shape := ⟨3, ![4, 6144, 8]⟩
abbrev S4x8x6144 : Shape := ⟨3, ![4, 8, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x6144x8, .f32⟩
  | .hbm, ⟨13, _⟩ => ⟨S4x8x6144, .f32⟩
  | .hbm, ⟨14, _⟩ => ⟨S4x1x6144, .f32⟩
  | .hbm, ⟨15, _⟩ => ⟨S4x8x6144, .f32⟩
  | .hbm, ⟨16, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Inner.lean ====
abbrev S8x8192x1024 : Shape := ⟨3, ![8, 8192, 1024]⟩
abbrev S8x6x1024 : Shape := ⟨3, ![8, 6, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S1024x2816 : Shape := ⟨2, ![1024, 2816]⟩
abbrev S1024x11x256 : Shape := ⟨3, ![1024, 11, 256]⟩
abbrev S1024x11x512 : Shape := ⟨3, ![1024, 11, 512]⟩
abbrev S11x1024x512 : Shape := ⟨3, ![11, 1024, 512]⟩
abbrev S3x2816 : Shape := ⟨2, ![3, 2816]⟩
abbrev S3x11x256 : Shape := ⟨3, ![3, 11, 256]⟩
abbrev S3x11x512 : Shape := ⟨3, ![3, 11, 512]⟩
abbrev S11x3x512 : Shape := ⟨3, ![11, 3, 512]⟩
abbrev S_ : Shape := ⟨0, ![]⟩
abbrev S11x8x512 : Shape := ⟨3, ![11, 8, 512]⟩
abbrev S11x256x1024 : Shape := ⟨3, ![11, 256, 1024]⟩
abbrev S1x1024 : Shape := ⟨2, ![1, 1024]⟩
abbrev S1x256x1024 : Shape := ⟨3, ![1, 256, 1024]⟩
abbrev S1x6x1024 : Shape := ⟨3, ![1, 6, 1024]⟩
abbrev S256x1024 : Shape := ⟨2, ![256, 1024]⟩
abbrev S2x256x512 : Shape := ⟨3, ![2, 256, 512]⟩
abbrev S256x512 : Shape := ⟨2, ![256, 512]⟩
abbrev S6x1024 : Shape := ⟨2, ![6, 1024]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S1x256x512 : Shape := ⟨3, ![1, 256, 512]⟩
abbrev S1x8x512 : Shape := ⟨3, ![1, 8, 512]⟩
abbrev S8x512 : Shape := ⟨2, ![8, 512]⟩
abbrev S1x32x512 : Shape := ⟨3, ![1, 32, 512]⟩
abbrev S32x512 : Shape := ⟨2, ![32, 512]⟩
abbrev S40x512 : Shape := ⟨2, ![40, 512]⟩
abbrev S1x512 : Shape := ⟨2, ![1, 512]⟩
abbrev S32x256 : Shape := ⟨2, ![32, 256]⟩
abbrev S2x256x1024 : Shape := ⟨3, ![2, 256, 1024]⟩
abbrev S512x1024 : Shape := ⟨2, ![512, 1024]⟩
abbrev S256x256 : Shape := ⟨2, ![256, 256]⟩

abbrev nBuf : Space → Nat
  | .hbm => 28
  | .vmem => 16
  | .smem => 0
  | _ => 0

abbrev bufTy : (tb : Table) → Fin (tcTables nBuf tb) → BufTy
  | .hbm, ⟨0, _⟩ => ⟨S8x8192x1024, .f32⟩
  | .hbm, ⟨1, _⟩ => ⟨S8x6x1024, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S2816x1024, .f32⟩
  | .hbm, ⟨6, _⟩ => ⟨S1024, .f32⟩
  | .hbm, ⟨7, _⟩ => ⟨S1024x2816, .f32⟩
  | .hbm, ⟨8, _⟩ => ⟨S1024x11x256, .f32⟩
  | .hbm, ⟨9, _⟩ => ⟨S1024x2816, .f32⟩
  | .hbm, ⟨10, _⟩ => ⟨S1024x11x256, .f32⟩
  | .hbm, ⟨11, _⟩ => ⟨S1024x11x512, .f32⟩
  | .hbm, ⟨12, _⟩ => ⟨S11x1024x512, .f32⟩
  | .hbm, ⟨13, _⟩ => ⟨S11x1024x512, .bf16⟩
  | .hbm, ⟨14, _⟩ => ⟨S3x2816, .f32⟩
  | .hbm, ⟨15, _⟩ => ⟨S3x11x256, .f32⟩
  | .hbm, ⟨16, _⟩ => ⟨S3x2816, .f32⟩
  | .hbm, ⟨17, _⟩ => ⟨S3x11x256, .f32⟩
  | .hbm, ⟨18, _⟩ => ⟨S3x11x512, .f32⟩
  | .hbm, ⟨19, _⟩ => ⟨S11x3x512, .f32⟩
  | .hbm, ⟨20, _⟩ => ⟨S_, .i32⟩
  | .hbm, ⟨21, _⟩ => ⟨S_, .f32⟩
  | .hbm, ⟨22, _⟩ => ⟨S11x8x512, .f32⟩
  | .hbm, ⟨23, _⟩ => ⟨S11x256x1024, .f32⟩
  | .hbm, ⟨24, _⟩ => ⟨S11x256x1024, .bf16⟩
  | .hbm, ⟨25, _⟩ => ⟨S1x1024, .f32⟩
  | .hbm, ⟨26, _⟩ => ⟨S1x1024, .f32⟩
  | .hbm, ⟨27, _⟩ => ⟨S8x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S11x1024x512, .bf16⟩
  | .local _ .vmem, ⟨6, _⟩ => ⟨S11x8x512, .f32⟩
  | .local _ .vmem, ⟨7, _⟩ => ⟨S11x256x1024, .bf16⟩
  | .local _ .vmem, ⟨8, _⟩ => ⟨S1x1024, .f32⟩
  | .local _ .vmem, ⟨9, _⟩ => ⟨S1x256x1024, .f32⟩
  | .local _ .vmem, ⟨10, _⟩ => ⟨S1x256x1024, .f32⟩
  | .local _ .vmem, ⟨11, _⟩ => ⟨S256x1024, .bf16⟩
  | .local _ .vmem, ⟨12, _⟩ => ⟨S256x1024, .f32⟩
  | .local _ .vmem, ⟨13, _⟩ => ⟨S11x8x512, .f32⟩
  | .local _ .vmem, ⟨14, _⟩ => ⟨S2x256x512, .f32⟩
  | .local _ .vmem, ⟨15, _⟩ => ⟨S256x512, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S11x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S11x8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S11x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== InnerRefIdeal.lean ====
abbrev S8x8192x1024 : Shape := ⟨3, ![8, 8192, 1024]⟩
abbrev S8x6x1024 : Shape := ⟨3, ![8, 6, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S8x1x1024 : Shape := ⟨3, ![8, 1, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5632 : Shape := ⟨3, ![8, 8192, 5632]⟩
abbrev S8x8194x5632 : Shape := ⟨3, ![8, 8194, 5632]⟩
abbrev S1x5632 : Shape := ⟨2, ![1, 5632]⟩
abbrev S5632 : Shape := ⟨1, ![5632]⟩
abbrev S1x1x5632 : Shape := ⟨3, ![1, 1, 5632]⟩
abbrev S8x8192x2816 : Shape := ⟨3, ![8, 8192, 2816]⟩

abbrev nBuf : Space → Nat
  | .hbm => 76
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x6x1024, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S2816x1024, .f32⟩
  | .hbm, ⟨6, _⟩ => ⟨S1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x8192x1024, .f32⟩
  | .hbm, ⟨11, _⟩ => ⟨S_, .f32⟩
  | .hbm, ⟨12, _⟩ => ⟨S8x8192, .f32⟩
  | .hbm, ⟨13, _⟩ => ⟨S8x8192x1, .f32⟩
  | .hbm, ⟨14, _⟩ => ⟨S_, .f32⟩
  | .hbm, ⟨15, _⟩ => ⟨S8x8192x1, .f32⟩
  | .hbm, ⟨16, _⟩ => ⟨S8x8192x1, .f32⟩
  | .hbm, ⟨17, _⟩ => ⟨S_, .f32⟩
  | .hbm, ⟨18, _⟩ => ⟨S8x8192x1, .f32⟩
  | .hbm, ⟨19, _⟩ => ⟨S8x8192x1, .f32⟩
  | .hbm, ⟨20, _⟩ => ⟨S8x8192x1, .f32⟩
  | .hbm, ⟨21, _⟩ => ⟨S8x8192x1024, .f32⟩
  | .hbm, ⟨22, _⟩ => ⟨S8x8192x1024, .f32⟩
  | .hbm, ⟨23, _⟩ => ⟨S1x1x1024, .f32⟩
  | .hbm, ⟨24, _⟩ => ⟨S8x8192x1024, .f32⟩
  | .hbm, ⟨25, _⟩ => ⟨S8x8192x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x8192x1024, .f32⟩
  | .hbm, ⟨30, _⟩ => ⟨S8x8192x1024, .f32⟩
  | .hbm, ⟨31, _⟩ => ⟨S8x8192x1024, .f32⟩
  | .hbm, ⟨32, _⟩ => ⟨S8x8192x1024, .f32⟩
  | .hbm, ⟨33, _⟩ => ⟨S8x8192x5632, .f32⟩
  | .hbm, ⟨34, _⟩ => ⟨S_, .i32⟩
  | .hbm, ⟨35, _⟩ => ⟨S_, .f32⟩
  | .hbm, ⟨36, _⟩ => ⟨S8x8194x5632, .f32⟩
  | .hbm, ⟨37, _⟩ => ⟨S8x8192x5632, .f32⟩
  | .hbm, ⟨38, _⟩ => ⟨S1x5632, .f32⟩
  | .hbm, ⟨39, _⟩ => ⟨S5632, .f32⟩
  | .hbm, ⟨40, _⟩ => ⟨S1x1x5632, .f32⟩
  | .hbm, ⟨41, _⟩ => ⟨S8x8192x5632, .f32⟩
  | .hbm, ⟨42, _⟩ => ⟨S8x8192x5632, .f32⟩
  | .hbm, ⟨43, _⟩ => ⟨S_, .f32⟩
  | .hbm, ⟨44, _⟩ => ⟨S8x8192x5632, .f32⟩
  | .hbm, ⟨45, _⟩ => ⟨S8x8192x5632, .f32⟩
  | .hbm, ⟨46, _⟩ => ⟨S8x8192x5632, .f32⟩
  | .hbm, ⟨47, _⟩ => ⟨S1x5632, .f32⟩
  | .hbm, ⟨48, _⟩ => ⟨S5632, .f32⟩
  | .hbm, ⟨49, _⟩ => ⟨S1x1x5632, .f32⟩
  | .hbm, ⟨50, _⟩ => ⟨S8x8192x5632, .f32⟩
  | .hbm, ⟨51, _⟩ => ⟨S8x8192x5632, .f32⟩
  | .hbm, ⟨52, _⟩ => ⟨S8x8192x5632, .f32⟩
  | .hbm, ⟨53, _⟩ => ⟨S8x8192x5632, .f32⟩
  | .hbm, ⟨54, _⟩ => ⟨S1x5632, .f32⟩
  | .hbm, ⟨55, _⟩ => ⟨S5632, .f32⟩
  | .hbm, ⟨56, _⟩ => ⟨S1x1x5632, .f32⟩
  | .hbm, ⟨57, _⟩ => ⟨S8x8192x5632, .f32⟩
  | .hbm, ⟨58, _⟩ => ⟨S8x8192x5632, .f32⟩
  | .hbm, ⟨59, _⟩ => ⟨S8x8192x5632, .f32⟩
  | .hbm, ⟨60, _⟩ => ⟨S8x8192x2816, .f32⟩
  | .hbm, ⟨61, _⟩ => ⟨S8x8192x2816, .f32⟩
  | .hbm, ⟨62, _⟩ => ⟨S8x8192x2816, .f32⟩
  | .hbm, ⟨63, _⟩ => ⟨S8x8192x2816, .f32⟩
  | .hbm, ⟨64, _⟩ => ⟨S_, .f32⟩
  | .hbm, ⟨65, _⟩ => ⟨S8x8192x2816, .f32⟩
  | .hbm, ⟨66, _⟩ => ⟨S8x8192x2816, .f32⟩
  | .hbm, ⟨67, _⟩ => ⟨S_, .f32⟩
  | .hbm, ⟨68, _⟩ => ⟨S8x8192x2816, .f32⟩
  | .hbm, ⟨69, _⟩ => ⟨S8x8192x2816, .f32⟩
  | .hbm, ⟨70, _⟩ => ⟨S8x8192x2816, .f32⟩
  | .hbm, ⟨71, _⟩ => ⟨S8x8192x2816, .f32⟩
  | .hbm, ⟨72, _⟩ => ⟨S8x8192x1024, .f32⟩
  | .hbm, ⟨73, _⟩ => ⟨S8x8192x1024, .f32⟩
  | .hbm, ⟨74, _⟩ => ⟨S8x8192x1024, .f32⟩
  | .hbm, ⟨75, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== Proof.MixIdealWrote.lean ====
/- What the body leaves in the output block, whatever the scratch held: the hidden state's block, to which a branch is added times
   the third modulation row. -/
module

public import proofs.«01_k».proof.Proof.Gen.MixIdeal.Frame.Runs
public import Idealize.ShloMosaic.Lib.VecWindow

@[expose] public section

noncomputable section

namespace Cert.MixIdeal.Body

open Cert.MixIdeal Cert.MixIdeal.Gen
open Idealize.ShloMosaic Idealize.ShloMosaic.TcCoe

variable {F : FTy → Type} [FloatOps F]

/-- The block `x` of the hidden state, with the branch `A` added times the third of the modulation rows `md`. -/
def gated (x : Vec F S1x512x1024 .f32) (md : Vec F S1x6x1024 .f32) (A : FVec F S512x1024 .f32) : Vec F S1x512x1024 .f32 :=
  shapeCast S1x512x1024
    (addf (shapeCast S512x1024 x shapeCasts_S1x512x1024_S512x1024)
      (mulf (broadcastTo S512x1024
          (extractStridedSlice S1x1024 ![2, 0] (shapeCast S6x1024 md shapeCasts_S1x6x1024_S6x1024) slices_S6x1024_o2_0_S1x1024)
          broadcasts_S1x1024_S512x1024) A))
    shapeCasts_S512x1024_S1x512x1024

/-- The block `d` is the hidden state's block `x` with some branch added times the third modulation row. -/
def Wrote (x : Vec F S1x512x1024 .f32) (md : Vec F S1x6x1024 .f32) (d : Vec F S1x512x1024 .f32) : Prop := ∃ A, d = gated x md A

/-- A whole buffer, read by a load of its own sizes, gives what it holds. -/
theorem read_whole {s : Shape} {e : EltTy} {a : Memref sig .tc .vmem s e} (h : a.IsWhole) (X : s.Idx → Elt F e) {off : Fin s.rank → ℕ}
    (inb : ∀ k, off k + s.size k ≤ s.size k) : View.readAt (Elt F) a.view (Rect.unit off s.size inb).toLoadRect (h.unread X) = X :=
  (View.readAt_full _ _ _).trans (h.read_unread X)

variable {arg3 arg16 : Memref sig .tc .vmem S1x512x1024 .f32} (harg3 : arg3.IsWhole)
  {arg4 : Memref sig .tc .vmem S1x6x1024 .f32} (harg4 : arg4.IsWhole)

/-- The store of an even point leaves the hidden state's block with a branch added times the third modulation row. -/
theorem wrote_even (x : Vec F S1x512x1024 .f32) (md : Vec F S1x6x1024 .f32) (A : FVec F S512x1024 .f32) (f : arg16.view.ty.Contents (Elt F)) :
    Wrote x md (View.read (Elt F) arg16.view (arg16.view.writes (Elt F) f
      [⟨Rect.unit ![0, 0, 0] S1x512x1024.size inb_S1x512x1024_S1x512x1024_0_0_0,
        k0_pay240 (k0_pay221 (View.readAt (Elt F) arg4.view
            (Rect.unit (s := S1x6x1024) ![0, 0, 0] S1x6x1024.size inb_S1x6x1024_S1x6x1024_0_0_0).toLoadRect (harg4.unread md))) A
          (View.readAt (Elt F) arg3.view
            (Rect.unit (s := S1x512x1024) ![0, 0, 0] S1x512x1024.size inb_S1x512x1024_S1x512x1024_0_0_0).toLoadRect (harg3.unread x))⟩])) := by
  rw [View.read_writes_full, read_whole, read_whole]
  exact ⟨A, rfl⟩

/-- So does the store of an odd point. -/
theorem wrote_odd (x : Vec F S1x512x1024 .f32) (md : Vec F S1x6x1024 .f32) (A : FVec F S512x1024 .f32) (f : arg16.view.ty.Contents (Elt F)) :
    Wrote x md (View.read (Elt F) arg16.view (arg16.view.writes (Elt F) f
      [⟨Rect.unit ![0, 0, 0] S1x512x1024.size inb_S1x512x1024_S1x512x1024_0_0_0,
        k0_pay481 (k0_pay463 (View.readAt (Elt F) arg4.view
            (Rect.unit (s := S1x6x1024) ![0, 0, 0] S1x6x1024.size inb_S1x6x1024_S1x6x1024_0_0_0).toLoadRect (harg4.unread md))) A
          (View.readAt (Elt F) arg3.view
            (Rect.unit (s := S1x512x1024) ![0, 0, 0] S1x512x1024.size inb_S1x512x1024_S1x512x1024_0_0_0).toLoadRect (harg3.unread x))⟩])) := by
  rw [View.read_writes_full, read_whole, read_whole]
  exact ⟨A, rfl⟩

end Cert.MixIdeal.Body

end
-- ==== Proof.MixIdealRunA.lean ====
/- The body at the first point, where the scratch is zeroed: it runs, whatever the scratch and the output block hold, and leaves in the
   output block the hidden state's block with a gated branch added. -/
module

public import proofs.«01_k».proof.Proof.MixIdealWrote

@[expose] public section

set_option maxRecDepth 16384

noncomputable section

namespace Cert.MixIdeal.Body

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 0 in
/-- The body at the first point, where the scratch is zeroed: from the inputs' buffers at their blocks and every other buffer at some
    contents it comes back to the same, the output block a gated addition to the hidden state's block. -/
theorem runA (c : Dev nD) (i : grid0.Coords)
    (arg1 : Memref sig .tc .vmem S1x512x1024 .f32) (harg1 : arg1.IsWhole)
    (arg2 : Memref sig .tc .vmem S1x6x1024 .f32) (harg2 : arg2.IsWhole)
    (arg3 : Memref sig .tc .vmem S1x512x1024 .f32) (harg3 : arg3.IsWhole)
    (arg4 : Memref sig .tc .vmem S1x6x1024 .f32) (harg4 : arg4.IsWhole)
    (arg5 : Memref sig .tc .vmem S1x1024 .f32) (harg5 : arg5.IsWhole)
    (arg6 : Memref sig .tc .vmem S1024x3584 .bf16) (harg6 : arg6.IsWhole)
    (arg7 : Memref sig .tc .vmem S1024x128 .bf16) (harg7 : arg7.IsWhole)
    (arg8 : Memref sig .tc .vmem S8x512 .f32) (harg8 : arg8.IsWhole) (arg9 : Memref sig .tc .vmem S1x512 .f32) (harg9 : arg9.IsWhole)
    (arg10 : Memref sig .tc .vmem S512x512 .bf16) (harg10 : arg10.IsWhole)
    (arg11 : Memref sig .tc .vmem S8x1536 .f32) (harg11 : arg11.IsWhole)
    (arg12 : Memref sig .tc .vmem S1x128 .f32) (harg12 : arg12.IsWhole)
    (arg13 : Memref sig .tc .vmem S1x128 .f32) (harg13 : arg13.IsWhole)
    (arg14 : Memref sig .tc .vmem S1x128 .f32) (harg14 : arg14.IsWhole)
    (arg15 : Memref sig .tc .vmem S1024x1024 .bf16) (harg15 : arg15.IsWhole)
    (arg16 : Memref sig .tc .vmem S1x512x1024 .f32) (harg16 : arg16.IsWhole)
    (arg17 : Memref sig .tc .vmem S512x1024 .bf16) (harg17 : arg17.IsWhole)
    (arg18 : Memref sig .tc .vmem S8x512 .f32) (harg18 : arg18.IsWhole)
    (arg19 : Memref sig .tc .vmem S3x8x512 .f32) (harg19 : arg19.IsWhole)
    (arg20 : Memref sig .tc .vmem S2x8x4x64x128 .f32) (harg20 : arg20.IsWhole)
    (arg21 : Memref sig .tc .vmem S2x8x4x64x128 .f32) (harg21 : arg21.IsWhole)
    (arg22 : Memref sig .tc .vmem S2x8x4x64x128 .f32) (harg22 : arg22.IsWhole)
    (arg23 : Memref sig .tc .vmem S2x512x128 .f32) (harg23 : arg23.IsWhole)
    (arg24 : Memref sig .tc .vmem S2x512x512 .bf16) (harg24 : arg24.IsWhole)
    (arg25 : Memref sig .tc .vmem S2x512x512 .bf16) (harg25 : arg25.IsWhole)
    (arg26 : Memref sig .tc .vmem S4x128x128 .f32) (harg26 : arg26.IsWhole)
    (arg27 : Memref sig .tc .vmem S2x32x64x128 .f32) (harg27 : arg27.IsWhole)
    (arg28 : Memref sig .tc .vmem S2x32x128x128 .f32) (harg28 : arg28.IsWhole)
    (arg29 : Memref sig .tc .vmem S2x32x64x64 .f32) (harg29 : arg29.IsWhole)
    (arg30 : Memref sig .tc .vmem S2x32x64x128 .f32) (harg30 : arg30.IsWhole)
    (arg31 : Memref sig .tc .vmem S2x32x1x128 .f32) (harg31 : arg31.IsWhole)
    (arg32 : Memref sig .tc .vmem S8x4x64x128 .f32) (harg32 : arg32.IsWhole)
    (hc0 : cond0_0 i) (hc1 : cond0_1 i) (hc2 : ¬cond0_2 i)
    (x0 : Vec F S1x512x1024 .f32) (x1 : Vec F S1x6x1024 .f32) (x2 : Vec F S1x512x1024 .f32) (x3 : Vec F S1x6x1024 .f32)
    (x4 : Vec F S1x1024 .f32) (x5 : Vec F S1024x3584 .bf16) (x6 : Vec F S1024x128 .bf16) (x7 : Vec F S8x512 .f32)
    (x8 : Vec F S1x512 .f32) (x9 : Vec F S512x512 .bf16) (x10 : Vec F S8x1536 .f32) (x11 : Vec F S1x128 .f32)
    (x12 : Vec F S1x128 .f32) (x13 : Vec F S1x128 .f32) (x14 : Vec F S1024x1024 .bf16)
    (E : Set ℕ) (K : PUnit → sProp 𝕄) :
    iprop(
        owns (c : Thread nD τ) arg1 fullShare x0 ∗ owns (c : Thread nD τ) arg2 fullShare x1 ∗
        owns (c : Thread nD τ) arg3 fullShare x2 ∗ owns (c : Thread nD τ) arg4 fullShare x3 ∗
        owns (c : Thread nD τ) arg5 fullShare x4 ∗ owns (c : Thread nD τ) arg6 fullShare x5 ∗
        owns (c : Thread nD τ) arg7 fullShare x6 ∗ owns (c : Thread nD τ) arg8 fullShare x7 ∗
        owns (c : Thread nD τ) arg9 fullShare x8 ∗ owns (c : Thread nD τ) arg10 fullShare x9 ∗
        owns (c : Thread nD τ) arg11 fullShare x10 ∗ owns (c : Thread nD τ) arg12 fullShare x11 ∗
        owns (c : Thread nD τ) arg13 fullShare x12 ∗ owns (c : Thread nD τ) arg14 fullShare x13 ∗
        owns (c : Thread nD τ) arg15 fullShare x14 ∗ (∃ d, owns (c : Thread nD τ) arg16 fullShare d) ∗
        (∃ d, owns (c : Thread nD τ) arg17 fullShare d) ∗ (∃ d, owns (c : Thread nD τ) arg18 fullShare d) ∗
        (∃ d, owns (c : Thread nD τ) arg19 fullShare d) ∗ (∃ d, owns (c : Thread nD τ) arg20 fullShare d) ∗
        (∃ d, owns (c : Thread nD τ) arg21 fullShare d) ∗ (∃ d, owns (c : Thread nD τ) arg22 fullShare d) ∗
        (∃ d, owns (c : Thread nD τ) arg23 fullShare d) ∗ (∃ d, owns (c : Thread nD τ) arg24 fullShare d) ∗
        (∃ d, owns (c : Thread nD τ) arg25 fullShare d) ∗ (∃ d, owns (c : Thread nD τ) arg26 fullShare d) ∗
        (∃ d, owns (c : Thread nD τ) arg27 fullShare d) ∗ (∃ d, owns (c : Thread nD τ) arg28 fullShare d) ∗
        (∃ d, owns (c : Thread nD τ) arg29 fullShare d) ∗ (∃ d, owns (c : Thread nD τ) arg30 fullShare d) ∗
        (∃ d, owns (c : Thread nD τ) arg31 fullShare d) ∗ (∃ d, owns (c : Thread nD τ) arg32 fullShare d)
        ∗ (iprop(
        owns (c : Thread nD τ) arg1 fullShare x0 ∗ owns (c : Thread nD τ) arg2 fullShare x1 ∗
        owns (c : Thread nD τ) arg3 fullShare x2 ∗ owns (c : Thread nD τ) arg4 fullShare x3 ∗
        owns (c : Thread nD τ) arg5 fullShare x4 ∗ owns (c : Thread nD τ) arg6 fullShare x5 ∗
        owns (c : Thread nD τ) arg7 fullShare x6 ∗ owns (c : Thread nD τ) arg8 fullShare x7 ∗
        owns (c : Thread nD τ) arg9 fullShare x8 ∗ owns (c : Thread nD τ) arg10 fullShare x9 ∗
        owns (c : Thread nD τ) arg11 fullShare x10 ∗ owns (c : Thread nD τ) arg12 fullShare x11 ∗
        owns (c : Thread nD τ) arg13 fullShare x12 ∗ owns (c : Thread nD τ) arg14 fullShare x13 ∗
        owns (c : Thread nD τ) arg15 fullShare x14 ∗ (∃ d, ⌜Wrote x2 x3 d⌝ ∗ owns (c : Thread nD τ) arg16 fullShare d) ∗
        (∃ d, owns (c : Thread nD τ) arg17 fullShare d) ∗ (∃ d, owns (c : Thread nD τ) arg18 fullShare d) ∗
        (∃ d, owns (c : Thread nD τ) arg19 fullShare d) ∗ (∃ d, owns (c : Thread nD τ) arg20 fullShare d) ∗
        (∃ d, owns (c : Thread nD τ) arg21 fullShare d) ∗ (∃ d, owns (c : Thread nD τ) arg22 fullShare d) ∗
        (∃ d, owns (c : Thread nD τ) arg23 fullShare d) ∗ (∃ d, owns (c : Thread nD τ) arg24 fullShare d) ∗
        (∃ d, owns (c : Thread nD τ) arg25 fullShare d) ∗ (∃ d, owns (c : Thread nD τ) arg26 fullShare d) ∗
        (∃ d, owns (c : Thread nD τ) arg27 fullShare d) ∗ (∃ d, owns (c : Thread nD τ) arg28 fullShare d) ∗
        (∃ d, owns (c : Thread nD τ) arg29 fullShare d) ∗ (∃ d, owns (c : Thread nD τ) arg30 fullShare d) ∗
        (∃ d, owns (c : Thread nD τ) arg31 fullShare d) ∗ (∃ d, owns (c : Thread nD τ) arg32 fullShare d)) -∗ K ⟨⟩))
      ⊢ wp frame (wpE (defs₀ (F := F)) Variants.none c none) E (
        cc0_token_mix i arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18 harg18 arg19 harg19
        arg20 harg20 arg21 harg21 arg22 harg22 arg23 harg23 arg24 harg24 arg25 harg25 arg26 harg26 arg27 harg27 arg28 harg28 arg29
        harg29 arg30 harg30 arg31 harg31 arg32 harg32) K := by
  simp only [cc0_token_mix_eq_skeleton]; unfold cc0_token_mix_skel
  simp only [k0_part34_eq_skeleton, k0_part3_eq_skeleton, k0_part1_eq_skeleton, k0_part2_eq_skeleton, k0_part4_eq_skeleton,
    k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton, k0_part14_eq_skeleton,
    k0_part15_eq_skeleton, k0_part16_eq_skeleton, k0_part17_eq_skeleton, k0_part18_eq_skeleton, k0_part19_eq_skeleton,
    k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton,
    k0_part30_eq_skeleton, k0_part31_eq_skeleton, k0_part32_eq_skeleton, k0_part33_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7,
      %hf7, H7⟩, ⟨%f8, %hf8, H8⟩, ⟨%f9, %hf9, H9⟩, ⟨%f10, %hf10, H10⟩, ⟨%f11, %hf11, H11⟩, ⟨%f12, %hf12, H12⟩, ⟨%f13, %hf13, H13⟩,
      ⟨%f14, %hf14, H14⟩, ⟨%d15, %f15, -, H15⟩, ⟨%ds0, %fs0, -, HS0⟩, ⟨%ds1, %fs1, -, HS1⟩, ⟨%ds2, %fs2, -, HS2⟩, ⟨%ds3, %fs3, -,
      HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9,
      -, HS9⟩, ⟨%ds10, %fs10, -, HS10⟩, ⟨%ds11, %fs11, -, HS11⟩, ⟨%ds12, %fs12, -, HS12⟩, ⟨%ds13, %fs13, -, HS13⟩, ⟨%ds14, %fs14, -,
      HS14⟩, ⟨%ds15, %fs15, -, HS15⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7; obtain rfl := harg9.eq_unread hf8
  obtain rfl := harg10.eq_unread hf9; obtain rfl := harg11.eq_unread hf10; obtain rfl := harg12.eq_unread hf11
  obtain rfl := harg13.eq_unread hf12; obtain rfl := harg14.eq_unread hf13; obtain rfl := harg15.eq_unread hf14
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; swap
    · iexists _; isplitr; swap; · iexact H15
      ipureintro; rfl
    ipureintro
    exact wrote_even harg3 harg4 x2 x3 _ _
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  isplitl [HS9]
  · iexists _, _; isplitr; swap; · iexact HS9
    ipureintro; rfl
  isplitl [HS10]
  · iexists _, _; isplitr; swap; · iexact HS10
    ipureintro; rfl
  isplitl [HS11]
  · iexists _, _; isplitr; swap; · iexact HS11
    ipureintro; rfl
  isplitl [HS12]
  · iexists _, _; isplitr; swap; · iexact HS12
    ipureintro; rfl
  isplitl [HS13]
  · iexists _, _; isplitr; swap; · iexact HS13
    ipureintro; rfl
  isplitl [HS14]
  · iexists _, _; isplitr; swap; · iexact HS14
    ipureintro; rfl
  iexists _, _; isplitr; swap; · iexact HS15
  ipureintro; rfl

end Cert.MixIdeal.Body

end
-- ==== Proof.MixIdealRunB.lean ====
/- The body at an odd point: it runs, whatever the scratch and the output block hold, and leaves in the output block the hidden state's
   block with a gated branch added. -/
module

public import proofs.«01_k».proof.Proof.MixIdealWrote

@[expose] public section

set_option maxRecDepth 16384

noncomputable section

namespace Cert.MixIdeal.Body

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 0 in
/-- The body at an odd point: from the inputs' buffers at their blocks and every other buffer at some contents it comes back to the
    same, the output block a gated addition to the hidden state's block. -/
theorem runB (c : Dev nD) (i : grid0.Coords)
    (arg1 : Memref sig .tc .vmem S1x512x1024 .f32) (harg1 : arg1.IsWhole)
    (arg2 : Memref sig .tc .vmem S1x6x1024 .f32) (harg2 : arg2.IsWhole)
    (arg3 : Memref sig .tc .vmem S1x512x1024 .f32) (harg3 : arg3.IsWhole)
    (arg4 : Memref sig .tc .vmem S1x6x1024 .f32) (harg4 : arg4.IsWhole)
    (arg5 : Memref sig .tc .vmem S1x1024 .f32) (harg5 : arg5.IsWhole)
    (arg6 : Memref sig .tc .vmem S1024x3584 .bf16) (harg6 : arg6.IsWhole)
    (arg7 : Memref sig .tc .vmem S1024x128 .bf16) (harg7 : arg7.IsWhole)
    (arg8 : Memref sig .tc .vmem S8x512 .f32) (harg8 : arg8.IsWhole) (arg9 : Memref sig .tc .vmem S1x512 .f32) (harg9 : arg9.IsWhole)
    (arg10 : Memref sig .tc .vmem S512x512 .bf16) (harg10 : arg10.IsWhole)
    (arg11 : Memref sig .tc .vmem S8x1536 .f32) (harg11 : arg11.IsWhole)
    (arg12 : Memref sig .tc .vmem S1x128 .f32) (harg12 : arg12.IsWhole)
    (arg13 : Memref sig .tc .vmem S1x128 .f32) (harg13 : arg13.IsWhole)
    (arg14 : Memref sig .tc .vmem S1x128 .f32) (harg14 : arg14.IsWhole)
    (arg15 : Memref sig .tc .vmem S1024x1024 .bf16) (harg15 : arg15.IsWhole)
    (arg16 : Memref sig .tc .vmem S1x512x1024 .f32) (harg16 : arg16.IsWhole)
    (arg17 : Memref sig .tc .vmem S512x1024 .bf16) (harg17 : arg17.IsWhole)
    (arg18 : Memref sig .tc .vmem S8x512 .f32) (harg18 : arg18.IsWhole)
    (arg19 : Memref sig .tc .vmem S3x8x512 .f32) (harg19 : arg19.IsWhole)
    (arg20 : Memref sig .tc .vmem S2x8x4x64x128 .f32) (harg20 : arg20.IsWhole)
    (arg21 : Memref sig .tc .vmem S2x8x4x64x128 .f32) (harg21 : arg21.IsWhole)
    (arg22 : Memref sig .tc .vmem S2x8x4x64x128 .f32) (harg22 : arg22.IsWhole)
    (arg23 : Memref sig .tc .vmem S2x512x128 .f32) (harg23 : arg23.IsWhole)
    (arg24 : Memref sig .tc .vmem S2x512x512 .bf16) (harg24 : arg24.IsWhole)
    (arg25 : Memref sig .tc .vmem S2x512x512 .bf16) (harg25 : arg25.IsWhole)
    (arg26 : Memref sig .tc .vmem S4x128x128 .f32) (harg26 : arg26.IsWhole)
    (arg27 : Memref sig .tc .vmem S2x32x64x128 .f32) (harg27 : arg27.IsWhole)
    (arg28 : Memref sig .tc .vmem S2x32x128x128 .f32) (harg28 : arg28.IsWhole)
    (arg29 : Memref sig .tc .vmem S2x32x64x64 .f32) (harg29 : arg29.IsWhole)
    (arg30 : Memref sig .tc .vmem S2x32x64x128 .f32) (harg30 : arg30.IsWhole)
    (arg31 : Memref sig .tc .vmem S2x32x1x128 .f32) (harg31 : arg31.IsWhole)
    (arg32 : Memref sig .tc .vmem S8x4x64x128 .f32) (harg32 : arg32.IsWhole)
    (hc0 : ¬cond0_0 i) (hc2 : cond0_2 i)
    (x0 : Vec F S1x512x1024 .f32) (x1 : Vec F S1x6x1024 .f32) (x2 : Vec F S1x512x1024 .f32) (x3 : Vec F S1x6x1024 .f32)
    (x4 : Vec F S1x1024 .f32) (x5 : Vec F S1024x3584 .bf16) (x6 : Vec F S1024x128 .bf16) (x7 : Vec F S8x512 .f32)
    (x8 : Vec F S1x512 .f32) (x9 : Vec F S512x512 .bf16) (x10 : Vec F S8x1536 .f32) (x11 : Vec F S1x128 .f32)
    (x12 : Vec F S1x128 .f32) (x13 : Vec F S1x128 .f32) (x14 : Vec F S1024x1024 .bf16)
    (E : Set ℕ) (K : PUnit → sProp 𝕄) :
    iprop(
        owns (c : Thread nD τ) arg1 fullShare x0 ∗ owns (c : Thread nD τ) arg2 fullShare x1 ∗
        owns (c : Thread nD τ) arg3 fullShare x2 ∗ owns (c : Thread nD τ) arg4 fullShare x3 ∗
        owns (c : Thread nD τ) arg5 fullShare x4 ∗ owns (c : Thread nD τ) arg6 fullShare x5 ∗
        owns (c : Thread nD τ) arg7 fullShare x6 ∗ owns (c : Thread nD τ) arg8 fullShare x7 ∗
        owns (c : Thread nD τ) arg9 fullShare x8 ∗ owns (c : Thread nD τ) arg10 fullShare x9 ∗
        owns (c : Thread nD τ) arg11 fullShare x10 ∗ owns (c : Thread nD τ) arg12 fullShare x11 ∗
        owns (c : Thread nD τ) arg13 fullShare x12 ∗ owns (c : Thread nD τ) arg14 fullShare x13 ∗
        owns (c : Thread nD τ) arg15 fullShare x14 ∗ (∃ d, owns (c : Thread nD τ) arg16 fullShare d) ∗
        (∃ d, owns (c : Thread nD τ) arg17 fullShare d) ∗ (∃ d, owns (c : Thread nD τ) arg18 fullShare d) ∗
        (∃ d, owns (c : Thread nD τ) arg19 fullShare d) ∗ (∃ d, owns (c : Thread nD τ) arg20 fullShare d) ∗
        (∃ d, owns (c : Thread nD τ) arg21 fullShare d) ∗ (∃ d, owns (c : Thread nD τ) arg22 fullShare d) ∗
        (∃ d, owns (c : Thread nD τ) arg23 fullShare d) ∗ (∃ d, owns (c : Thread nD τ) arg24 fullShare d) ∗
        (∃ d, owns (c : Thread nD τ) arg25 fullShare d) ∗ (∃ d, owns (c : Thread nD τ) arg26 fullShare d) ∗
        (∃ d, owns (c : Thread nD τ) arg27 fullShare d) ∗ (∃ d, owns (c : Thread nD τ) arg28 fullShare d) ∗
        (∃ d, owns (c : Thread nD τ) arg29 fullShare d) ∗ (∃ d, owns (c : Thread nD τ) arg30 fullShare d) ∗
        (∃ d, owns (c : Thread nD τ) arg31 fullShare d) ∗ (∃ d, owns (c : Thread nD τ) arg32 fullShare d)
        ∗ (iprop(
        owns (c : Thread nD τ) arg1 fullShare x0 ∗ owns (c : Thread nD τ) arg2 fullShare x1 ∗
        owns (c : Thread nD τ) arg3 fullShare x2 ∗ owns (c : Thread nD τ) arg4 fullShare x3 ∗
        owns (c : Thread nD τ) arg5 fullShare x4 ∗ owns (c : Thread nD τ) arg6 fullShare x5 ∗
        owns (c : Thread nD τ) arg7 fullShare x6 ∗ owns (c : Thread nD τ) arg8 fullShare x7 ∗
        owns (c : Thread nD τ) arg9 fullShare x8 ∗ owns (c : Thread nD τ) arg10 fullShare x9 ∗
        owns (c : Thread nD τ) arg11 fullShare x10 ∗ owns (c : Thread nD τ) arg12 fullShare x11 ∗
        owns (c : Thread nD τ) arg13 fullShare x12 ∗ owns (c : Thread nD τ) arg14 fullShare x13 ∗
        owns (c : Thread nD τ) arg15 fullShare x14 ∗ (∃ d, ⌜Wrote x2 x3 d⌝ ∗ owns (c : Thread nD τ) arg16 fullShare d) ∗
        (∃ d, owns (c : Thread nD τ) arg17 fullShare d) ∗ (∃ d, owns (c : Thread nD τ) arg18 fullShare d) ∗
        (∃ d, owns (c : Thread nD τ) arg19 fullShare d) ∗ (∃ d, owns (c : Thread nD τ) arg20 fullShare d) ∗
        (∃ d, owns (c : Thread nD τ) arg21 fullShare d) ∗ (∃ d, owns (c : Thread nD τ) arg22 fullShare d) ∗
        (∃ d, owns (c : Thread nD τ) arg23 fullShare d) ∗ (∃ d, owns (c : Thread nD τ) arg24 fullShare d) ∗
        (∃ d, owns (c : Thread nD τ) arg25 fullShare d) ∗ (∃ d, owns (c : Thread nD τ) arg26 fullShare d) ∗
        (∃ d, owns (c : Thread nD τ) arg27 fullShare d) ∗ (∃ d, owns (c : Thread nD τ) arg28 fullShare d) ∗
        (∃ d, owns (c : Thread nD τ) arg29 fullShare d) ∗ (∃ d, owns (c : Thread nD τ) arg30 fullShare d) ∗
        (∃ d, owns (c : Thread nD τ) arg31 fullShare d) ∗ (∃ d, owns (c : Thread nD τ) arg32 fullShare d)) -∗ K ⟨⟩))
      ⊢ wp frame (wpE (defs₀ (F := F)) Variants.none c none) E (
        cc0_token_mix i arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18 harg18 arg19 harg19
        arg20 harg20 arg21 harg21 arg22 harg22 arg23 harg23 arg24 harg24 arg25 harg25 arg26 harg26 arg27 harg27 arg28 harg28 arg29
        harg29 arg30 harg30 arg31 harg31 arg32 harg32) K := by
  simp only [cc0_token_mix_eq_skeleton]; unfold cc0_token_mix_skel
  simp only [k0_part66_eq_skeleton, k0_part35_eq_skeleton, k0_part36_eq_skeleton, k0_part37_eq_skeleton, k0_part38_eq_skeleton,
    k0_part39_eq_skeleton, k0_part40_eq_skeleton, k0_part41_eq_skeleton, k0_part42_eq_skeleton, k0_part43_eq_skeleton,
    k0_part44_eq_skeleton, k0_part45_eq_skeleton, k0_part46_eq_skeleton, k0_part47_eq_skeleton, k0_part48_eq_skeleton,
    k0_part49_eq_skeleton, k0_part50_eq_skeleton, k0_part51_eq_skeleton, k0_part52_eq_skeleton, k0_part53_eq_skeleton,
    k0_part54_eq_skeleton, k0_part55_eq_skeleton, k0_part56_eq_skeleton, k0_part57_eq_skeleton, k0_part58_eq_skeleton,
    k0_part59_eq_skeleton, k0_part60_eq_skeleton, k0_part61_eq_skeleton, k0_part62_eq_skeleton, k0_part63_eq_skeleton,
    k0_part64_eq_skeleton, k0_part65_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7,
      %hf7, H7⟩, ⟨%f8, %hf8, H8⟩, ⟨%f9, %hf9, H9⟩, ⟨%f10, %hf10, H10⟩, ⟨%f11, %hf11, H11⟩, ⟨%f12, %hf12, H12⟩, ⟨%f13, %hf13, H13⟩,
      ⟨%f14, %hf14, H14⟩, ⟨%d15, %f15, -, H15⟩, ⟨%ds0, %fs0, -, HS0⟩, ⟨%ds1, %fs1, -, HS1⟩, ⟨%ds2, %fs2, -, HS2⟩, ⟨%ds3, %fs3, -,
      HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9,
      -, HS9⟩, ⟨%ds10, %fs10, -, HS10⟩, ⟨%ds11, %fs11, -, HS11⟩, ⟨%ds12, %fs12, -, HS12⟩, ⟨%ds13, %fs13, -, HS13⟩, ⟨%ds14, %fs14, -,
      HS14⟩, ⟨%ds15, %fs15, -, HS15⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7; obtain rfl := harg9.eq_unread hf8
  obtain rfl := harg10.eq_unread hf9; obtain rfl := harg11.eq_unread hf10; obtain rfl := harg12.eq_unread hf11
  obtain rfl := harg13.eq_unread hf12; obtain rfl := harg14.eq_unread hf13; obtain rfl := harg15.eq_unread hf14
  sl_exec (disch := first | sl_exact hc0 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; swap
    · iexists _; isplitr; swap; · iexact H15
      ipureintro; rfl
    ipureintro
    exact wrote_odd harg3 harg4 x2 x3 _ _
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  isplitl [HS9]
  · iexists _, _; isplitr; swap; · iexact HS9
    ipureintro; rfl
  isplitl [HS10]
  · iexists _, _; isplitr; swap; · iexact HS10
    ipureintro; rfl
  isplitl [HS11]
  · iexists _, _; isplitr; swap; · iexact HS11
    ipureintro; rfl
  isplitl [HS12]
  · iexists _, _; isplitr; swap; · iexact HS12
    ipureintro; rfl
  isplitl [HS13]
  · iexists _, _; isplitr; swap; · iexact HS13
    ipureintro; rfl
  isplitl [HS14]
  · iexists _, _; isplitr; swap; · iexact HS14
    ipureintro; rfl
  iexists _, _; isplitr; swap; · iexact HS15
  ipureintro; rfl

end Cert.MixIdeal.Body

end
-- ==== Proof.MixIdealRunC.lean ====
/- The body at an even point after the first: it runs, whatever the scratch and the output block hold, and leaves in the output block
   the hidden state's block with a gated branch added. -/
module

public import proofs.«01_k».proof.Proof.MixIdealWrote

@[expose] public section

set_option maxRecDepth 16384

noncomputable section

namespace Cert.MixIdeal.Body

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 0 in
/-- The body at an even point after the first: from the inputs' buffers at their blocks and every other buffer at some contents it comes
    back to the same, the output block a gated addition to the hidden state's block. -/
theorem runC (c : Dev nD) (i : grid0.Coords)
    (arg1 : Memref sig .tc .vmem S1x512x1024 .f32) (harg1 : arg1.IsWhole)
    (arg2 : Memref sig .tc .vmem S1x6x1024 .f32) (harg2 : arg2.IsWhole)
    (arg3 : Memref sig .tc .vmem S1x512x1024 .f32) (harg3 : arg3.IsWhole)
    (arg4 : Memref sig .tc .vmem S1x6x1024 .f32) (harg4 : arg4.IsWhole)
    (arg5 : Memref sig .tc .vmem S1x1024 .f32) (harg5 : arg5.IsWhole)
    (arg6 : Memref sig .tc .vmem S1024x3584 .bf16) (harg6 : arg6.IsWhole)
    (arg7 : Memref sig .tc .vmem S1024x128 .bf16) (harg7 : arg7.IsWhole)
    (arg8 : Memref sig .tc .vmem S8x512 .f32) (harg8 : arg8.IsWhole) (arg9 : Memref sig .tc .vmem S1x512 .f32) (harg9 : arg9.IsWhole)
    (arg10 : Memref sig .tc .vmem S512x512 .bf16) (harg10 : arg10.IsWhole)
    (arg11 : Memref sig .tc .vmem S8x1536 .f32) (harg11 : arg11.IsWhole)
    (arg12 : Memref sig .tc .vmem S1x128 .f32) (harg12 : arg12.IsWhole)
    (arg13 : Memref sig .tc .vmem S1x128 .f32) (harg13 : arg13.IsWhole)
    (arg14 : Memref sig .tc .vmem S1x128 .f32) (harg14 : arg14.IsWhole)
    (arg15 : Memref sig .tc .vmem S1024x1024 .bf16) (harg15 : arg15.IsWhole)
    (arg16 : Memref sig .tc .vmem S1x512x1024 .f32) (harg16 : arg16.IsWhole)
    (arg17 : Memref sig .tc .vmem S512x1024 .bf16) (harg17 : arg17.IsWhole)
    (arg18 : Memref sig .tc .vmem S8x512 .f32) (harg18 : arg18.IsWhole)
    (arg19 : Memref sig .tc .vmem S3x8x512 .f32) (harg19 : arg19.IsWhole)
    (arg20 : Memref sig .tc .vmem S2x8x4x64x128 .f32) (harg20 : arg20.IsWhole)
    (arg21 : Memref sig .tc .vmem S2x8x4x64x128 .f32) (harg21 : arg21.IsWhole)
    (arg22 : Memref sig .tc .vmem S2x8x4x64x128 .f32) (harg22 : arg22.IsWhole)
    (arg23 : Memref sig .tc .vmem S2x512x128 .f32) (harg23 : arg23.IsWhole)
    (arg24 : Memref sig .tc .vmem S2x512x512 .bf16) (harg24 : arg24.IsWhole)
    (arg25 : Memref sig .tc .vmem S2x512x512 .bf16) (harg25 : arg25.IsWhole)
    (arg26 : Memref sig .tc .vmem S4x128x128 .f32) (harg26 : arg26.IsWhole)
    (arg27 : Memref sig .tc .vmem S2x32x64x128 .f32) (harg27 : arg27.IsWhole)
    (arg28 : Memref sig .tc .vmem S2x32x128x128 .f32) (harg28 : arg28.IsWhole)
    (arg29 : Memref sig .tc .vmem S2x32x64x64 .f32) (harg29 : arg29.IsWhole)
    (arg30 : Memref sig .tc .vmem S2x32x64x128 .f32) (harg30 : arg30.IsWhole)
    (arg31 : Memref sig .tc .vmem S2x32x1x128 .f32) (harg31 : arg31.IsWhole)
    (arg32 : Memref sig .tc .vmem S8x4x64x128 .f32) (harg32 : arg32.IsWhole)
    (hc0 : cond0_0 i) (hc1 : ¬cond0_1 i) (hc2 : ¬cond0_2 i)
    (x0 : Vec F S1x512x1024 .f32) (x1 : Vec F S1x6x1024 .f32) (x2 : Vec F S1x512x1024 .f32) (x3 : Vec F S1x6x1024 .f32)
    (x4 : Vec F S1x1024 .f32) (x5 : Vec F S1024x3584 .bf16) (x6 : Vec F S1024x128 .bf16) (x7 : Vec F S8x512 .f32)
    (x8 : Vec F S1x512 .f32) (x9 : Vec F S512x512 .bf16) (x10 : Vec F S8x1536 .f32) (x11 : Vec F S1x128 .f32)
    (x12 : Vec F S1x128 .f32) (x13 : Vec F S1x128 .f32) (x14 : Vec F S1024x1024 .bf16)
    (E : Set ℕ) (K : PUnit → sProp 𝕄) :
    iprop(
        owns (c : Thread nD τ) arg1 fullShare x0 ∗ owns (c : Thread nD τ) arg2 fullShare x1 ∗
        owns (c : Thread nD τ) arg3 fullShare x2 ∗ owns (c : Thread nD τ) arg4 fullShare x3 ∗
        owns (c : Thread nD τ) arg5 fullShare x4 ∗ owns (c : Thread nD τ) arg6 fullShare x5 ∗
        owns (c : Thread nD τ) arg7 fullShare x6 ∗ owns (c : Thread nD τ) arg8 fullShare x7 ∗
        owns (c : Thread nD τ) arg9 fullShare x8 ∗ owns (c : Thread nD τ) arg10 fullShare x9 ∗
        owns (c : Thread nD τ) arg11 fullShare x10 ∗ owns (c : Thread nD τ) arg12 fullShare x11 ∗
        owns (c : Thread nD τ) arg13 fullShare x12 ∗ owns (c : Thread nD τ) arg14 fullShare x13 ∗
        owns (c : Thread nD τ) arg15 fullShare x14 ∗ (∃ d, owns (c : Thread nD τ) arg16 fullShare d) ∗
        (∃ d, owns (c : Thread nD τ) arg17 fullShare d) ∗ (∃ d, owns (c : Thread nD τ) arg18 fullShare d) ∗
        (∃ d, owns (c : Thread nD τ) arg19 fullShare d) ∗ (∃ d, owns (c : Thread nD τ) arg20 fullShare d) ∗
        (∃ d, owns (c : Thread nD τ) arg21 fullShare d) ∗ (∃ d, owns (c : Thread nD τ) arg22 fullShare d) ∗
        (∃ d, owns (c : Thread nD τ) arg23 fullShare d) ∗ (∃ d, owns (c : Thread nD τ) arg24 fullShare d) ∗
        (∃ d, owns (c : Thread nD τ) arg25 fullShare d) ∗ (∃ d, owns (c : Thread nD τ) arg26 fullShare d) ∗
        (∃ d, owns (c : Thread nD τ) arg27 fullShare d) ∗ (∃ d, owns (c : Thread nD τ) arg28 fullShare d) ∗
        (∃ d, owns (c : Thread nD τ) arg29 fullShare d) ∗ (∃ d, owns (c : Thread nD τ) arg30 fullShare d) ∗
        (∃ d, owns (c : Thread nD τ) arg31 fullShare d) ∗ (∃ d, owns (c : Thread nD τ) arg32 fullShare d)
        ∗ (iprop(
        owns (c : Thread nD τ) arg1 fullShare x0 ∗ owns (c : Thread nD τ) arg2 fullShare x1 ∗
        owns (c : Thread nD τ) arg3 fullShare x2 ∗ owns (c : Thread nD τ) arg4 fullShare x3 ∗
        owns (c : Thread nD τ) arg5 fullShare x4 ∗ owns (c : Thread nD τ) arg6 fullShare x5 ∗
        owns (c : Thread nD τ) arg7 fullShare x6 ∗ owns (c : Thread nD τ) arg8 fullShare x7 ∗
        owns (c : Thread nD τ) arg9 fullShare x8 ∗ owns (c : Thread nD τ) arg10 fullShare x9 ∗
        owns (c : Thread nD τ) arg11 fullShare x10 ∗ owns (c : Thread nD τ) arg12 fullShare x11 ∗
        owns (c : Thread nD τ) arg13 fullShare x12 ∗ owns (c : Thread nD τ) arg14 fullShare x13 ∗
        owns (c : Thread nD τ) arg15 fullShare x14 ∗ (∃ d, ⌜Wrote x2 x3 d⌝ ∗ owns (c : Thread nD τ) arg16 fullShare d) ∗
        (∃ d, owns (c : Thread nD τ) arg17 fullShare d) ∗ (∃ d, owns (c : Thread nD τ) arg18 fullShare d) ∗
        (∃ d, owns (c : Thread nD τ) arg19 fullShare d) ∗ (∃ d, owns (c : Thread nD τ) arg20 fullShare d) ∗
        (∃ d, owns (c : Thread nD τ) arg21 fullShare d) ∗ (∃ d, owns (c : Thread nD τ) arg22 fullShare d) ∗
        (∃ d, owns (c : Thread nD τ) arg23 fullShare d) ∗ (∃ d, owns (c : Thread nD τ) arg24 fullShare d) ∗
        (∃ d, owns (c : Thread nD τ) arg25 fullShare d) ∗ (∃ d, owns (c : Thread nD τ) arg26 fullShare d) ∗
        (∃ d, owns (c : Thread nD τ) arg27 fullShare d) ∗ (∃ d, owns (c : Thread nD τ) arg28 fullShare d) ∗
        (∃ d, owns (c : Thread nD τ) arg29 fullShare d) ∗ (∃ d, owns (c : Thread nD τ) arg30 fullShare d) ∗
        (∃ d, owns (c : Thread nD τ) arg31 fullShare d) ∗ (∃ d, owns (c : Thread nD τ) arg32 fullShare d)) -∗ K ⟨⟩))
      ⊢ wp frame (wpE (defs₀ (F := F)) Variants.none c none) E (
        cc0_token_mix i arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18 harg18 arg19 harg19
        arg20 harg20 arg21 harg21 arg22 harg22 arg23 harg23 arg24 harg24 arg25 harg25 arg26 harg26 arg27 harg27 arg28 harg28 arg29
        harg29 arg30 harg30 arg31 harg31 arg32 harg32) K := by
  simp only [cc0_token_mix_eq_skeleton]; unfold cc0_token_mix_skel
  simp only [k0_part34_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton,
    k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton, k0_part21_eq_skeleton,
    k0_part22_eq_skeleton, k0_part23_eq_skeleton, k0_part24_eq_skeleton, k0_part25_eq_skeleton, k0_part26_eq_skeleton,
    k0_part27_eq_skeleton, k0_part28_eq_skeleton, k0_part29_eq_skeleton, k0_part30_eq_skeleton, k0_part31_eq_skeleton,
    k0_part32_eq_skeleton, k0_part33_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7,
      %hf7, H7⟩, ⟨%f8, %hf8, H8⟩, ⟨%f9, %hf9, H9⟩, ⟨%f10, %hf10, H10⟩, ⟨%f11, %hf11, H11⟩, ⟨%f12, %hf12, H12⟩, ⟨%f13, %hf13, H13⟩,
      ⟨%f14, %hf14, H14⟩, ⟨%d15, %f15, -, H15⟩, ⟨%ds0, %fs0, -, HS0⟩, ⟨%ds1, %fs1, -, HS1⟩, ⟨%ds2, %fs2, -, HS2⟩, ⟨%ds3, %fs3, -,
      HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9,
      -, HS9⟩, ⟨%ds10, %fs10, -, HS10⟩, ⟨%ds11, %fs11, -, HS11⟩, ⟨%ds12, %fs12, -, HS12⟩, ⟨%ds13, %fs13, -, HS13⟩, ⟨%ds14, %fs14, -,
      HS14⟩, ⟨%ds15, %fs15, -, HS15⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7; obtain rfl := harg9.eq_unread hf8
  obtain rfl := harg10.eq_unread hf9; obtain rfl := harg11.eq_unread hf10; obtain rfl := harg12.eq_unread hf11
  obtain rfl := harg13.eq_unread hf12; obtain rfl := harg14.eq_unread hf13; obtain rfl := harg15.eq_unread hf14
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; swap
    · iexists _; isplitr; swap; · iexact H15
      ipureintro; rfl
    ipureintro
    exact wrote_even harg3 harg4 x2 x3 _ _
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  isplitl [HS9]
  · iexists _, _; isplitr; swap; · iexact HS9
    ipureintro; rfl
  isplitl [HS10]
  · iexists _, _; isplitr; swap; · iexact HS10
    ipureintro; rfl
  isplitl [HS11]
  · iexists _, _; isplitr; swap; · iexact HS11
    ipureintro; rfl
  isplitl [HS12]
  · iexists _, _; isplitr; swap; · iexact HS12
    ipureintro; rfl
  isplitl [HS13]
  · iexists _, _; isplitr; swap; · iexact HS13
    ipureintro; rfl
  isplitl [HS14]
  · iexists _, _; isplitr; swap; · iexact HS14
    ipureintro; rfl
  iexists _, _; isplitr; swap; · iexact HS15
  ipureintro; rfl

end Cert.MixIdeal.Body

end
-- ==== Proof.MixIdealFrame.lean ====
/- The token mixing call's frame: the pipeline runs the body at each of its points, fetching each input's block and writing the
   result's back, and leaves the arguments as they were. Of the scratch nothing is said; of each of the result's blocks, that it is
   the hidden state's block with some branch added times the gate. -/
module

public import proofs.«01_k».proof.Proof.MixIdealRunA
public import proofs.«01_k».proof.Proof.MixIdealRunB
public import proofs.«01_k».proof.Proof.MixIdealRunC
public import Idealize.ShloMosaic.Lib.Claim
public import Idealize.ShloMosaic.Lib.Pipeline.DatRel

@[expose] public section

set_option maxRecDepth 16384

noncomputable section

namespace Cert.MixIdeal.Body

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's data: the arrays as the region finds them, each input's block after the body as before it, the result's unnamed,
    and between the points the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, h⟩ => Pipeline.Dat.unnamed (cfg := cfg0) ⟨15, h⟩ t
    | ⟨_ + 16, h⟩ => absurd h (Nat.not_lt.2 (Nat.le_add_left _ _))
  Φ _ := Pipeline.ΦA spec0 c
  q w := Pipeline.shareOf spec0 w
  owed _ := 0

/-- Its arrays are those the region finds. -/
theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d

theorem leaves_0 (c : Dev nD) (t : Fin cfg0.N) :
    (dats m 0 c).leavesExact 0 t = owns (c : Thread nD τ) (ms0_0 t) fullShare (iblk m c 0 t) := by
  unfold Dat.leavesExact; rw [liveAt0_0 t]; dsimp only; rw [after_0]
theorem leaves_1 (c : Dev nD) (t : Fin cfg0.N) :
    (dats m 0 c).leavesExact 1 t = owns (c : Thread nD τ) (ms0_1 t) fullShare (iblk m c 1 t) := by
  unfold Dat.leavesExact; rw [liveAt0_1 t]; dsimp only; rw [after_1]
theorem leaves_2 (c : Dev nD) (t : Fin cfg0.N) :
    (dats m 0 c).leavesExact 2 t = owns (c : Thread nD τ) (ms0_2 t) fullShare (iblk m c 2 t) := by
  unfold Dat.leavesExact; rw [liveAt0_2 t]; dsimp only; rw [after_2]
theorem leaves_3 (c : Dev nD) (t : Fin cfg0.N) :
    (dats m 0 c).leavesExact 3 t = owns (c : Thread nD τ) (ms0_3 t) fullShare (iblk m c 3 t) := by
  unfold Dat.leavesExact; rw [liveAt0_3 t]; dsimp only; rw [after_3]
theorem leaves_4 (c : Dev nD) (t : Fin cfg0.N) :
    (dats m 0 c).leavesExact 4 t = owns (c : Thread nD τ) (ms0_4 t) fullShare (iblk m c 4 t) := by
  unfold Dat.leavesExact; rw [liveAt0_4 t]; dsimp only; rw [after_4]
theorem leaves_5 (c : Dev nD) (t : Fin cfg0.N) :
    (dats m 0 c).leavesExact 5 t = owns (c : Thread nD τ) (ms0_5 t) fullShare (iblk m c 5 t) := by
  unfold Dat.leavesExact; rw [liveAt0_5 t]; dsimp only; rw [after_5]
theorem leaves_6 (c : Dev nD) (t : Fin cfg0.N) :
    (dats m 0 c).leavesExact 6 t = owns (c : Thread nD τ) (ms0_6 t) fullShare (iblk m c 6 t) := by
  unfold Dat.leavesExact; rw [liveAt0_6 t]; dsimp only; rw [after_6]
theorem leaves_7 (c : Dev nD) (t : Fin cfg0.N) :
    (dats m 0 c).leavesExact 7 t = owns (c : Thread nD τ) (ms0_7 t) fullShare (iblk m c 7 t) := by
  unfold Dat.leavesExact; rw [liveAt0_7 t]; dsimp only; rw [after_7]
theorem leaves_8 (c : Dev nD) (t : Fin cfg0.N) :
    (dats m 0 c).leavesExact 8 t = owns (c : Thread nD τ) (ms0_8 t) fullShare (iblk m c 8 t) := by
  unfold Dat.leavesExact; rw [liveAt0_8 t]; dsimp only; rw [after_8]
theorem leaves_9 (c : Dev nD) (t : Fin cfg0.N) :
    (dats m 0 c).leavesExact 9 t = owns (c : Thread nD τ) (ms0_9 t) fullShare (iblk m c 9 t) := by
  unfold Dat.leavesExact; rw [liveAt0_9 t]; dsimp only; rw [after_9]
theorem leaves_10 (c : Dev nD) (t : Fin cfg0.N) :
    (dats m 0 c).leavesExact 10 t = owns (c : Thread nD τ) (ms0_10 t) fullShare (iblk m c 10 t) := by
  unfold Dat.leavesExact; rw [liveAt0_10 t]; dsimp only; rw [after_10]
theorem leaves_11 (c : Dev nD) (t : Fin cfg0.N) :
    (dats m 0 c).leavesExact 11 t = owns (c : Thread nD τ) (ms0_11 t) fullShare (iblk m c 11 t) := by
  unfold Dat.leavesExact; rw [liveAt0_11 t]; dsimp only; rw [after_11]
theorem leaves_12 (c : Dev nD) (t : Fin cfg0.N) :
    (dats m 0 c).leavesExact 12 t = owns (c : Thread nD τ) (ms0_12 t) fullShare (iblk m c 12 t) := by
  unfold Dat.leavesExact; rw [liveAt0_12 t]; dsimp only; rw [after_12]
theorem leaves_13 (c : Dev nD) (t : Fin cfg0.N) :
    (dats m 0 c).leavesExact 13 t = owns (c : Thread nD τ) (ms0_13 t) fullShare (iblk m c 13 t) := by
  unfold Dat.leavesExact; rw [liveAt0_13 t]; dsimp only; rw [after_13]
theorem leaves_14 (c : Dev nD) (t : Fin cfg0.N) :
    (dats m 0 c).leavesExact 14 t = owns (c : Thread nD τ) (ms0_14 t) fullShare (iblk m c 14 t) := by
  unfold Dat.leavesExact; rw [liveAt0_14 t]; dsimp only; rw [after_14]

/-- Nothing but a relation is said of what the last window, the result's, is left with. -/
def unsaid : Fin 16 → Bool := fun w => w.val == 15

/-- The relation: the result's block is the hidden state's with some branch added times the gate. -/
def left (c : Dev nD) (w : Fin cfg0.W) (t : Fin cfg0.N) (X : (cfg0.win w).block.Idx → Elt F (cfg0.win w).elt) : Prop :=
  match w, X with
  | ⟨15, _⟩, X => Wrote (iblk m c 2 t) (iblk m c 3 t) X
  | _, _ => True

/-- The data with the result held to the relation. -/
def rdats (c : Dev nD) := (dats (F := F) m 0 c).toRRel unsaid (left m c)

/-- The body at any point: the three cases together. -/
theorem runAt (c : Dev nD) (t : Fin cfg0.N)
    (x0 : Vec F S1x512x1024 .f32) (x1 : Vec F S1x6x1024 .f32) (x2 : Vec F S1x512x1024 .f32) (x3 : Vec F S1x6x1024 .f32) (x4 : Vec F S1x1024 .f32) (x5 : Vec F S1024x3584 .bf16) (x6 : Vec F S1024x128 .bf16) (x7 : Vec F S8x512 .f32) (x8 : Vec F S1x512 .f32) (x9 : Vec F S512x512 .bf16) (x10 : Vec F S8x1536 .f32) (x11 : Vec F S1x128 .f32) (x12 : Vec F S1x128 .f32) (x13 : Vec F S1x128 .f32) (x14 : Vec F S1024x1024 .bf16)
    (K : PUnit → sProp 𝕄) :
    iprop(
        owns (c : Thread nD τ) (ms0_0 t) fullShare x0 ∗ owns (c : Thread nD τ) (ms0_1 t) fullShare x1 ∗
        owns (c : Thread nD τ) (ms0_2 t) fullShare x2 ∗ owns (c : Thread nD τ) (ms0_3 t) fullShare x3 ∗
        owns (c : Thread nD τ) (ms0_4 t) fullShare x4 ∗ owns (c : Thread nD τ) (ms0_5 t) fullShare x5 ∗
        owns (c : Thread nD τ) (ms0_6 t) fullShare x6 ∗ owns (c : Thread nD τ) (ms0_7 t) fullShare x7 ∗
        owns (c : Thread nD τ) (ms0_8 t) fullShare x8 ∗ owns (c : Thread nD τ) (ms0_9 t) fullShare x9 ∗
        owns (c : Thread nD τ) (ms0_10 t) fullShare x10 ∗ owns (c : Thread nD τ) (ms0_11 t) fullShare x11 ∗
        owns (c : Thread nD τ) (ms0_12 t) fullShare x12 ∗ owns (c : Thread nD τ) (ms0_13 t) fullShare x13 ∗
        owns (c : Thread nD τ) (ms0_14 t) fullShare x14 ∗ (∃ d, owns (c : Thread nD τ) (ms0_15 t) fullShare d) ∗
        (∃ d, owns (c : Thread nD τ) scM0_0 fullShare d) ∗ (∃ d, owns (c : Thread nD τ) scM0_1 fullShare d) ∗
        (∃ d, owns (c : Thread nD τ) scM0_2 fullShare d) ∗ (∃ d, owns (c : Thread nD τ) scM0_3 fullShare d) ∗
        (∃ d, owns (c : Thread nD τ) scM0_4 fullShare d) ∗ (∃ d, owns (c : Thread nD τ) scM0_5 fullShare d) ∗
        (∃ d, owns (c : Thread nD τ) scM0_6 fullShare d) ∗ (∃ d, owns (c : Thread nD τ) scM0_7 fullShare d) ∗
        (∃ d, owns (c : Thread nD τ) scM0_8 fullShare d) ∗ (∃ d, owns (c : Thread nD τ) scM0_9 fullShare d) ∗
        (∃ d, owns (c : Thread nD τ) scM0_10 fullShare d) ∗ (∃ d, owns (c : Thread nD τ) scM0_11 fullShare d) ∗
        (∃ d, owns (c : Thread nD τ) scM0_12 fullShare d) ∗ (∃ d, owns (c : Thread nD τ) scM0_13 fullShare d) ∗
        (∃ d, owns (c : Thread nD τ) scM0_14 fullShare d) ∗ (∃ d, owns (c : Thread nD τ) scM0_15 fullShare d)
        ∗ (iprop(
        owns (c : Thread nD τ) (ms0_0 t) fullShare x0 ∗ owns (c : Thread nD τ) (ms0_1 t) fullShare x1 ∗
        owns (c : Thread nD τ) (ms0_2 t) fullShare x2 ∗ owns (c : Thread nD τ) (ms0_3 t) fullShare x3 ∗
        owns (c : Thread nD τ) (ms0_4 t) fullShare x4 ∗ owns (c : Thread nD τ) (ms0_5 t) fullShare x5 ∗
        owns (c : Thread nD τ) (ms0_6 t) fullShare x6 ∗ owns (c : Thread nD τ) (ms0_7 t) fullShare x7 ∗
        owns (c : Thread nD τ) (ms0_8 t) fullShare x8 ∗ owns (c : Thread nD τ) (ms0_9 t) fullShare x9 ∗
        owns (c : Thread nD τ) (ms0_10 t) fullShare x10 ∗ owns (c : Thread nD τ) (ms0_11 t) fullShare x11 ∗
        owns (c : Thread nD τ) (ms0_12 t) fullShare x12 ∗ owns (c : Thread nD τ) (ms0_13 t) fullShare x13 ∗
        owns (c : Thread nD τ) (ms0_14 t) fullShare x14 ∗ (∃ d, ⌜Wrote x2 x3 d⌝ ∗ owns (c : Thread nD τ) (ms0_15 t) fullShare d) ∗
        (∃ d, owns (c : Thread nD τ) scM0_0 fullShare d) ∗ (∃ d, owns (c : Thread nD τ) scM0_1 fullShare d) ∗
        (∃ d, owns (c : Thread nD τ) scM0_2 fullShare d) ∗ (∃ d, owns (c : Thread nD τ) scM0_3 fullShare d) ∗
        (∃ d, owns (c : Thread nD τ) scM0_4 fullShare d) ∗ (∃ d, owns (c : Thread nD τ) scM0_5 fullShare d) ∗
        (∃ d, owns (c : Thread nD τ) scM0_6 fullShare d) ∗ (∃ d, owns (c : Thread nD τ) scM0_7 fullShare d) ∗
        (∃ d, owns (c : Thread nD τ) scM0_8 fullShare d) ∗ (∃ d, owns (c : Thread nD τ) scM0_9 fullShare d) ∗
        (∃ d, owns (c : Thread nD τ) scM0_10 fullShare d) ∗ (∃ d, owns (c : Thread nD τ) scM0_11 fullShare d) ∗
        (∃ d, owns (c : Thread nD τ) scM0_12 fullShare d) ∗ (∃ d, owns (c : Thread nD τ) scM0_13 fullShare d) ∗
        (∃ d, owns (c : Thread nD τ) scM0_14 fullShare d) ∗ (∃ d, owns (c : Thread nD τ) scM0_15 fullShare d)) -∗ K ⟨⟩))
      ⊢ wp frame (wpE (defs₀ (F := F)) Variants.none c none) Set.univ (bodyAt0 t) K := by
  unfold bodyAt0
  have hN : t.val < 130 := lt_of_lt_of_eq t.isLt N_0
  by_cases h0 : t.val % 2 = 0
  · have h2 : ¬ t.val % 2 = 1 := by omega
    by_cases h1 : t.val % 130 = 0
    · exact runA c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) x0 x1 x2 x3 x4 x5 x6 x7 x8 x9 x10 x11 x12 x13 x14 Set.univ K
    · exact runC c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) x0 x1 x2 x3 x4 x5 x6 x7 x8 x9 x10 x11 x12 x13 x14 Set.univ K
  · have h2 : t.val % 2 = 1 := by omega
    exact runB c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_2 t).mpr h2) x0 x1 x2 x3 x4 x5 x6 x7 x8 x9 x10 x11 x12 x13 x14 Set.univ K

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, ⌜(rdats m c).Finds 15 t d⌝ ∗ owns (c : Thread nD τ) (ms0_15 t) fullShare d))

/-- and what it gives back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t
    ∗ (dats m 0 c).leavesExact 8 t ∗ (dats m 0 c).leavesExact 9 t ∗ (dats m 0 c).leavesExact 10 t ∗ (dats m 0 c).leavesExact 11 t
    ∗ (dats m 0 c).leavesExact 12 t ∗ (dats m 0 c).leavesExact 13 t ∗ (dats m 0 c).leavesExact 14 t
    ∗ (∃ d, ⌜Wrote (iblk m c 2 t) (iblk m c 3 t) d⌝ ∗ owns (c : Thread nD τ) (ms0_15 t) fullShare d))

set_option maxHeartbeats 38400000 in
/-- The body at any point goes from the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8, before_9, before_10, before_11, before_12, before_13,
    before_14, leaves_0, leaves_1, leaves_2, leaves_3, leaves_4, leaves_5, leaves_6, leaves_7, leaves_8, leaves_9, leaves_10, leaves_11, leaves_12,
    leaves_13, leaves_14]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq]
  iintro ⟨⟨⟨S0, S1, S2, S3, S4, S5, S6, S7, S8, S9, S10, S11, S12, S13, S14, S15⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, -, H15⟩⟩
  iapply (runAt c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists d15; iexact H15
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iintro ⟨H0, H1, H2, H3, H4, H5, H6, H7, H8, H9, H10, H11, H12, H13, H14, H15, S0, S1, S2, S3, S4, S5, S6, S7, S8, S9, S10, S11, S12, S13, S14, S15⟩
  isplitl [S0 S1 S2 S3 S4 S5 S6 S7 S8 S9 S10 S11 S12 S13 S14 S15 Hg]
  · isplitl [S0 S1 S2 S3 S4 S5 S6 S7 S8 S9 S10 S11 S12 S13 S14 S15]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      iexact S15
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body's row of the table, spelt at a point. -/
theorem defs₀_row (t : Fin cfg0.N) : defs₀ (F := F) .tc cfg0.body (cfg0.bodyArgs t (cfg0.slots t)) = bodyAt0 t := by
  unfold defs₀; rw [Defs.onTc_tc]

/-- The body meets its obligation at every point. -/
theorem body_obligation (c : Dev nD) :
    Pipeline.BodyObligationRel (dats (F := F) m 0 c) (defs₀ (F := F)) Variants.none () Set.univ unsaid (left m c) := fun t => by
  rw [bigSep_W0, bigSep_W0, defs₀_row]
  exact triple_restated (sound_body m c t) rfl .rfl fun _ => .rfl

set_option backward.isDefEq.respectTransparency.types false in
/-- The program runs to its end, its inputs' arrays unchanged, every counter at zero, and the result put together from blocks that
    meet the relation. -/
theorem run_quiescent : θ_run defs (onTc (τ := τ) (main (F := F))) (s₀ m ρ)
    (fun r => (Pipeline.RDat.FramePost (cfgs 0) (fun c => rdats m c) (V m)) r ∧ r.2.sem = fun _ => 0) :=
  Pipeline.RDat.θ_run_frame_track_shared (Q' := _) cfgs (0 : Fin 1) launch₀0 defs₀ Variants.none (fun c => rdats m c) m ρ main
    (hbody := fun c => Pipeline.BodyObligationRel.toRRel _ (body_obligation m c)) (hq := fun _ _ _ => rfl)
    (howed := fun _ _ => rfl) (V := V m) (hmain := hmain m Variants.none) (hA := A_eq m)
    (hin := fun _ => Idealize.SL.BI.Entails.refl _) (hout := fun _ => Idealize.SL.BI.Entails.refl _)

/-- Where the region has run so, the arguments are as they were: each is an array that it only reads. -/
theorem args_kept {r : PUnit × MemSt nD τ sig (Elt F)} (h : Pipeline.RDat.FramePost (cfgs 0) (fun c => rdats m c) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨(Pipeline.RDat.FramePost.arr_in h c 2 rfl).trans ((A_eq m c 2).trans (V_main_arg0 m c)),
    (Pipeline.RDat.FramePost.arr_in h c 3 rfl).trans ((A_eq m c 3).trans (V_main_arg1 m c)),
    (Pipeline.RDat.FramePost.arr_in h c 4 rfl).trans ((A_eq m c 4).trans (V_main_arg2 m c)),
    (Pipeline.RDat.FramePost.arr_in h c 5 rfl).trans ((A_eq m c 5).trans (V_main_arg3 m c)),
    (Pipeline.RDat.FramePost.arr_in h c 6 rfl).trans ((A_eq m c 6).trans (V_main_arg4 m c)),
    (Pipeline.RDat.FramePost.arr_in h c 7 rfl).trans ((A_eq m c 7).trans (V_main_arg5 m c)),
    (Pipeline.RDat.FramePost.arr_in h c 8 rfl).trans ((A_eq m c 8).trans (V_main_arg6 m c)),
    (Pipeline.RDat.FramePost.arr_in h c 9 rfl).trans ((A_eq m c 9).trans (V_main_arg7 m c)),
    (Pipeline.RDat.FramePost.arr_in h c 10 rfl).trans ((A_eq m c 10).trans (V_main_arg8 m c)),
    (Pipeline.RDat.FramePost.arr_in h c 11 rfl).trans ((A_eq m c 11).trans (V_main_arg9 m c)),
    (Pipeline.RDat.FramePost.arr_in h c 12 rfl).trans ((A_eq m c 12).trans (V_main_arg10 m c)),
    (Pipeline.RDat.FramePost.arr_in h c 13 rfl).trans ((A_eq m c 13).trans (V_main_arg11 m c)),
    (Pipeline.RDat.FramePost.arr_in h c 14 rfl).trans ((A_eq m c 14).trans (V_main_arg12 m c))⟩

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and ((θ_run defs _ _).mono (fun _ h => args_kept m h.1) (run_quiescent m ρ))
    ((θ_run defs _ _).mono (fun _ h => h.2) (run_quiescent m ρ))

end Cert.MixIdeal.Body

end
-- ==== Proof.MixIdealShut.lean ====
/- Where the gate is zero, what the body leaves is the hidden state; and the predicate of the claim, from that. -/
module

public import proofs.«01_k».proof.Proof.MixIdealWrote
public import proofs.«01_k».proof.Post_unchanged_where_shut
public import Idealize.ShloMosaic.Lib.Pointwise
public import Idealize.ShloMosaic.Lib.Tactic

@[expose] public section

set_option maxRecDepth 16384

noncomputable section

namespace Cert.MixIdeal.Body

open Cert.MixIdeal Cert.MixIdeal.Gen Cert.MixIdeal.Facts Idealize.ShloMosaic Idealize.ShloMosaic.TcCoe

/-- Where the third modulation row is zero, the hidden state with any branch added times that row is the hidden state. -/
theorem gated_shut (x : Vec Ideal S1x512x1024 .f32) (md : Vec Ideal S1x6x1024 .f32) (A : FVec Ideal S512x1024 .f32) (r : Fin 512) (q : Fin 1024)
    (h : md (ix3 0 2 q) = 0) : gated (F := Ideal) x md A (ix3 0 r q) = x (ix3 0 r q) := by
  pointwise [gated]
  rw [h, zero_mul, add_zero]

/-- The predicate of the claim is all ones of a result that is the hidden state wherever the third modulation row is zero. -/
theorem post_ones [Cert.Post_unchanged_where_shut.Facts] (x : FVec Ideal S8x8192x1024 .f32) (md : FVec Ideal S8x6x1024 .f32)
    (a2 : FVec Ideal S1x1024 .f32) (a3 : FVec Ideal S1024x3584 .bf16) (a4 : FVec Ideal S1024x128 .bf16) (a5 : FVec Ideal S8x512 .f32)
    (a6 : FVec Ideal S1x512 .f32) (a7 : FVec Ideal S512x512 .bf16) (a8 : FVec Ideal S8x1536 .f32) (a9 a10 a11 : FVec Ideal S1x128 .f32)
    (a12 : FVec Ideal S1024x1024 .bf16)
    (y : FVec Ideal S8x8192x1024 .f32) (h : ∀ (b : Fin 8) (s : Fin 8192) (q : Fin 1024), md (ix3 b 2 q) = 0 → y (ix3 b s q) = x (ix3 b s q)) :
    Cert.Post_unchanged_where_shut.fn (F := Ideal) x md a2 a3 a4 a5 a6 a7 a8 a9 a10 a11 a12 y = fun _ => 1#1 := by
  funext i
  rw [eq_ix3 i]
  have hi := h (i 0) (i 1) (i 2)
  generalize i 0 = b at *
  generalize i 1 = s at *
  generalize i 2 = q at *
  pointwise [Cert.Post_unchanged_where_shut.fn]
  by_cases hz : md (ix3 b 2 q) = 0
  · simp [hz, hi hz, IntOp.ori]
  · simp [hz, IntOp.ori]
    generalize decide (y (ix3 b s q) = x (ix3 b s q)) = d
    cases d <;> rfl

end Cert.MixIdeal.Body

end
-- ==== Proof.MixIdealHolds.lean ====
/- The token mixing call leaves the hidden state as it was wherever its gate is zero: each block of the result meets the relation, and
   the blocks written back cover the result. -/
module

public import proofs.«01_k».proof.Proof.MixIdealFrame
public import proofs.«01_k».proof.Proof.MixIdealShut
public import Idealize.ShloMosaic.Lib.Pipeline.ArrRel

@[expose] public section

set_option maxRecDepth 16384

noncomputable section

namespace Cert.MixIdeal.Body

open Cert.MixIdeal Cert.MixIdeal.Gen Cert.MixIdeal.Facts Idealize.ShloMosaic Idealize.ShloMosaic.TcCoe

/-- The blocks of the hidden state and of the result move together, the modulation rows' with their batch. -/
theorem idx_moving : ∀ t : Fin cfg0.N, win0_2.index t 0 = win0_15.index t 0 ∧ win0_2.index t 1 = win0_15.index t 1
    ∧ win0_2.index t 2 = 0 ∧ win0_15.index t 2 = 0
    ∧ win0_3.index t 0 = win0_15.index t 0 ∧ win0_3.index t 1 = 0 ∧ win0_3.index t 2 = 0 :=
  (by decide +kernel : ∀ t : Fin grid0.N, _)

variable (m : (ℓ : Loc nD τ sig) → Buf (Elt Ideal) ℓ) (c : Dev nD) (t : Fin cfg0.N)

/-- The gate of an element of the hidden state: the third modulation row of its batch, at its channel. -/
def gateAt (i : S8x8192x1024.Idx) : EReal := m ((c : Thread nD τ).loc main_arg1) (ix3 (i 0) 2 (i 2))

/-- The hidden state's block, at an index, is the hidden state under the result's block there. -/
theorem iblk2_at (y : S1x512x1024.Idx) (i : S8x8192x1024.Idx) (hi : ((cfg0.win 15).blk t).view.emb y = i) :
    iblk m c 2 t y = m ((c : Thread nD τ).loc main_arg0) i := by
  obtain ⟨e0, e1, e2, e3, -⟩ := idx_moving t
  show V m c main_arg0 (((cfg0.win 2).blk t).view.emb y) = _
  rw [V_main_arg0, ← hi]
  refine congrArg (m ((c : Thread nD τ).loc main_arg0)) ?_
  funext a
  apply Fin.ext
  match a with
  | ⟨0, _⟩ => show win0_2.index t 0 * 1 + 1 * (y 0).val = win0_15.index t 0 * 1 + 1 * (y 0).val; omega
  | ⟨1, _⟩ => show win0_2.index t 1 * 512 + 1 * (y 1).val = win0_15.index t 1 * 512 + 1 * (y 1).val; omega
  | ⟨2, _⟩ => show win0_2.index t 2 * 1024 + 1 * (y 2).val = win0_15.index t 2 * 1024 + 1 * (y 2).val; omega

/-- The third of the modulation rows' block is the gate of the batch and the channel under the result's block. -/
theorem iblk3_at (y : S1x512x1024.Idx) (i : S8x8192x1024.Idx) (hi : ((cfg0.win 15).blk t).view.emb y = i) (q : Fin 1024) (hq : y 2 = q) :
    iblk m c 3 t (ix3 0 2 q) = gateAt m c i := by
  unfold gateAt
  obtain ⟨-, -, -, e3, e4, e5, e6⟩ := idx_moving t
  have hy : (y 0).val = 0 := by have h : (y 0).val < 1 := (y 0).isLt; omega
  show V m c main_arg1 (((cfg0.win 3).blk t).view.emb (ix3 0 2 q)) = _
  rw [V_main_arg1, ← hi, ← hq]
  refine congrArg (m ((c : Thread nD τ).loc main_arg1)) ?_
  funext a
  apply Fin.ext
  match a with
  | ⟨0, _⟩ => show win0_3.index t 0 * 1 + 1 * 0 = win0_15.index t 0 * 1 + 1 * (y 0).val; omega
  | ⟨1, _⟩ => show win0_3.index t 1 * 6 + 1 * 2 = 2; omega
  | ⟨2, _⟩ => show win0_3.index t 2 * 1024 + 1 * (y 2).val = win0_15.index t 2 * 1024 + 1 * (y 2).val; omega

/-- A block that meets the relation is the hidden state's wherever the gate is zero. -/
theorem block_shut (X : Vec Ideal S1x512x1024 .f32) (hX : Wrote (F := Ideal) (iblk m c 2 t) (iblk m c 3 t) X) (y : S1x512x1024.Idx)
    (i : S8x8192x1024.Idx) (hi : ((cfg0.win 15).blk t).view.emb y = i)
    (hz : gateAt m c i = 0) : X y = m ((c : Thread nD τ).loc main_arg0) i := by
  obtain ⟨A, rfl⟩ := hX
  rw [← iblk2_at m c t y i hi]
  have h0 : y 0 = (0 : Fin 1) := Subsingleton.elim (α := Fin 1) _ _
  have hg := iblk3_at m c t y i hi (y 2) rfl
  have e : y = ix3 0 (y 1) (y 2) := by rw [← h0]; exact eq_ix3 y
  rw [e]
  exact gated_shut _ _ A (y 1) (y 2) (hg.trans hz)

/-- The result is the hidden state wherever the gate is zero. -/
theorem result_shut {r : PUnit × MemSt nD τ sig (Elt Ideal)} (h : Pipeline.RDat.FramePost (cfgs 0) (fun c => rdats m c) (V m) r)
    (i : S8x8192x1024.Idx) (hz : gateAt m c i = 0) :
    r.2.mem ((c : Thread nD τ).loc main_v0) i = m ((c : Thread nD τ).loc main_arg0) i := by
  obtain ⟨after, hL, hA⟩ := Pipeline.RDat.FramePost.exists_exact h c
  have key := ((rdats m c).withAfter after).arrAt_forall_of_covers 15
    (fun i v => gateAt m c i = 0 → v = m ((c : Thread nD τ).loc main_arg0) i) (by decide +kernel)
    (fun t hf y hz => block_shut m c t (after 15 t) (Pipeline.Dat.toRRel_leaves _ rfl (hL 15 t hf)) y _ rfl hz) i
  exact (congrFun (hA 15) i).trans (key hz)

end Cert.MixIdeal.Body

end
-- ==== Proof.FfnSpec.lean ====
/- The feed-forward call as a function of its seven arguments, entry by entry, over the extended reals: the form in which
   the kernel's blocks and the reference's operations are compared. -/
module

public import Idealize.ShloMosaic.Lib.Pointwise

@[expose] public section

noncomputable section

namespace Cert.FfnSpec

open Idealize.ShloMosaic

/-- The seven arrays the call takes: the hidden states, the six modulation rows of each sequence, the norm's weight, the
    up projection, the convolution's taps, the down projection and the last norm's weight. -/
structure Args where
  x : FVec Ideal ⟨3, ![8, 8192, 1024]⟩ .f32
  md : FVec Ideal ⟨3, ![8, 6, 1024]⟩ .f32
  n2 : FVec Ideal ⟨1, ![1024]⟩ .f32
  w : FVec Ideal ⟨2, ![1024, 5632]⟩ .f32
  cw : FVec Ideal ⟨2, ![3, 5632]⟩ .f32
  wd : FVec Ideal ⟨2, ![2816, 1024]⟩ .f32
  nf : FVec Ideal ⟨1, ![1024]⟩ .f32

/-- One over the root mean square of a row of 1024 numbers, with the norm's small constant inside the root. -/
def invRms (v : Fin 1024 → EReal) : EReal :=
  Ideal.rsqrt (Ideal.div (∑ d, v d * v d) (Ideal.ofBits .f32 0x44800000#32) + Ideal.ofBits .f32 0x358637BD#32)

variable (A : Args)

/-- The normed and modulated hidden state. -/
def hid (b : Fin 8) (l : Fin 8192) (d : Fin 1024) : EReal :=
  A.x (ix3 b l d) * invRms (fun e => A.x (ix3 b l e)) * A.n2 (ix1 d) * (1 + A.md (ix3 b 4 d)) + A.md (ix3 b 3 d)

/-- The up projection. -/
def up (b : Fin 8) (l : Fin 8192) (f : Fin 5632) : EReal := ∑ d, hid A b l d * A.w (ix2 d f)

/-- The up projection's rows with eight rows of zeros in front: row `n` is row `n - 8` of the sequence. -/
def upPad (b : Fin 8) (n : Nat) (f : Fin 5632) : EReal :=
  if h : 8 ≤ n ∧ n - 8 < 8192 then up A b ⟨n - 8, h.2⟩ f else 0

/-- The causal convolution with three taps. -/
def conv (b : Fin 8) (l : Nat) (f : Fin 5632) : EReal :=
  upPad A b (l + 6) f * A.cw (ix2 0 f) + upPad A b (l + 7) f * A.cw (ix2 1 f) + upPad A b (l + 8) f * A.cw (ix2 2 f)

/-- The gate's column. -/
def gcol (g : Fin 2816) : Fin 5632 := ⟨g.val, by omega⟩

/-- The value's column: the second half of the up projection. -/
def vcol (g : Fin 2816) : Fin 5632 := ⟨2816 + g.val, by omega⟩

/-- `y` times the logistic function of `y`. -/
def silu (y : EReal) : EReal := y * Ideal.div 1 (1 + Ideal.exp (-y))

/-- The gated unit: silu of the gate times the value. -/
def act (b : Fin 8) (l : Nat) (g : Fin 2816) : EReal := silu (conv A b l (gcol g)) * conv A b l (vcol g)

/-- The residual sum: the hidden state plus the gated down projection. -/
def ffn (b : Fin 8) (l : Fin 8192) (d : Fin 1024) : EReal :=
  A.x (ix3 b l d) + A.md (ix3 b 5 d) * ∑ g, act A b l.val g * A.wd (ix2 g d)

/-- The result: the residual sum normed by its own root mean square. -/
def out (b : Fin 8) (l : Fin 8192) (d : Fin 1024) : EReal :=
  ffn A b l d * invRms (ffn A b l) * A.nf (ix1 d)

end Cert.FfnSpec

end
-- ==== Proof.FfnRefValue.lean ====
/- The reference's result, read entry by entry: it is the function of FfnSpec. -/
module

public import proofs.«01_k».proof.Proof.Gen.FfnRefIdeal.Read
public import proofs.«01_k».proof.Proof.FfnSpec

@[expose] public section

set_option maxRecDepth 16384

noncomputable section

namespace Cert.FfnRefIdeal.Value

open Idealize.ShloMosaic Cert.FfnRefIdeal.Read Cert.FfnSpec

variable [Facts]

variable (A : Args)

/-- The reference's normed and modulated hidden state. -/
theorem ref_hid (b : Fin 8) (l : Fin 8192) (d : Fin 1024) :
    val_main_v21 (F := Ideal) A.x A.md A.n2 (ix3 b l d) = hid A b l d := by
  pointwise [val_main_v21, val_main_v20, val_main_v19, val_main_v18, val_main_v17, val_main_v16, val_main_cst_2, val_main_v15,
    val_main_v14, val_main_v13, val_main_v12, val_main_v11, val_main_v10, val_main_v9, val_main_v8, val_main_cst_1, val_main_v7,
    val_main_v6, val_main_cst_0, val_main_v5, val_main_v4, val_main_cst, val_main_v3, val_main_v2, val_main_v1, val_main_v0, hid, invRms]

/-- The reference's up projection. -/
theorem ref_up (b : Fin 8) (l : Fin 8192) (f : Fin 5632) :
    val_main_v22 (F := Ideal) A.x A.md A.n2 A.w (ix3 b l f) = up A b l f := by
  pointwise [val_main_v22, up, ref_hid]

/-- The reference's padded up projection: two rows of zeros in front. -/
theorem ref_pad (b : Fin 8) (n : Fin 8194) (f : Fin 5632) :
    val_main_v23 (F := Ideal) A.x A.md A.n2 A.w (ix3 b n f) = upPad A b (n.val + 6) f := by
  pointwise [val_main_v23, val_main_call0_v0, val_main_c, upPad, ref_up]
  have hz : (FloatOps.sitofp (F := Ideal) FTy.f32 0#32 : EReal) = 0 := by
    show (((0#32 : BitVec 32).toInt : ℝ) : EReal) = 0
    norm_num
  rw [hz]
  simp only [Nat.reduceSubDiff]

/-- The reference's convolution: its three shifted products. -/
theorem ref_conv (b : Fin 8) (l : Fin 8192) (f : Fin 5632) :
    val_main_v45 (F := Ideal) A.x A.md A.n2 A.w A.cw (ix3 b l f) = conv A b l f := by
  pointwise [val_main_v45, val_main_v44, val_main_v43, val_main_v42, val_main_v41, val_main_v40, val_main_v39, val_main_v38,
    val_main_v37, val_main_v36, val_main_v35, val_main_v34, val_main_v33, val_main_v32, val_main_v31, val_main_v30,
    val_main_cst_3, val_main_v29, val_main_v28, val_main_v27, val_main_v26, val_main_v25, val_main_v24, ref_pad, conv]
  rw [show 1 + l.val + 6 = l.val + 7 by omega, show 2 + l.val + 6 = l.val + 8 by omega]

/-- The reference's gated unit. -/
theorem ref_act (b : Fin 8) (l : Fin 8192) (g : Fin 2816) :
    val_main_v49 (F := Ideal) A.x A.md A.n2 A.w A.cw (ix3 b l g) = act A b l g := by
  pointwise [val_main_v49, val_main_v48, val_main_call1_v5, val_main_call1_v4, val_main_call1_cst_0, val_main_call1_v3,
    val_main_call1_v2, val_main_call1_cst, val_main_call1_v1, val_main_call1_v0, val_main_v47, val_main_v46, ref_conv, act, silu, gcol, vcol]

/-- The reference's residual sum. -/
theorem ref_ffn (b : Fin 8) (l : Fin 8192) (d : Fin 1024) :
    val_main_v53 (F := Ideal) A.x A.md A.n2 A.w A.cw A.wd (ix3 b l d) = ffn A b l d := by
  pointwise [val_main_v53, val_main_v52, val_main_v51, val_main_v50, val_main_v2, ref_act, ffn]

/-- The reference's result. -/
theorem ref_out (b : Fin 8) (l : Fin 8192) (d : Fin 1024) :
    val_main_v66 (F := Ideal) A.x A.md A.n2 A.w A.cw A.wd A.nf (ix3 b l d) = out A b l d := by
  pointwise [val_main_v66, val_main_v65, val_main_v64, val_main_v63, val_main_v62, val_main_v61, val_main_v60, val_main_v59,
    val_main_cst_6, val_main_v58, val_main_v57, val_main_cst_5, val_main_v56, val_main_v55, val_main_cst_4, val_main_v54, ref_ffn, out, invRms]

end Cert.FfnRefIdeal.Value

end
-- ==== Proof.FfnBody.lean ====
/- One grid point of the kernel's body as a few recursive definitions: the list of stores each scratch has received after the
   first `n` steps. `FfnRunA` and `FfnRunB` say that the body's run leaves exactly these lists; `FfnPoint` reads them entry by entry. -/
module

public import proofs.«01_k».proof.Proof.Gen.FfnIdeal.Value
public import proofs.«01_k».proof.Proof.FfnSpec

@[expose] public section

set_option maxRecDepth 16384

noncomputable section

namespace Cert.FfnIdeal.Body

open Cert.FfnIdeal Cert.FfnIdeal.Gen Idealize.ShloMosaic Idealize.ShloMosaic.TcCoe Idealize.SL.Sem

/-- What one grid point's body loads: the hidden-state block, the modulation rows, the two norms' weights, the up projection's, taps'
    and down projection's blocks by number, and the views of the scratch buffers. -/
structure Pt where
  x : Vec Ideal S1x256x1024 .f32
  md : Vec Ideal S1x6x1024 .f32
  n2 : Vec Ideal S1x1024 .f32
  nf : Vec Ideal S1x1024 .f32
  w : ℕ → Vec Ideal S1x1024x512 .bf16
  cw : ℕ → Vec Ideal S1x8x512 .f32
  wd2 : ℕ → Vec Ideal S2x256x1024 .bf16
  wd1 : Vec Ideal S1x256x1024 .bf16
  hv : View sig .tc .vmem S256x1024 .bf16
  av : View sig .tc .vmem S256x1024 .f32
  uv : View sig .tc .vmem S2x256x512 .f32
  gv : View sig .tc .vmem S256x512 .bf16

theorem inb_u (k r n : ℕ) (h : r + n ≤ 256) : ∀ a, (![k % 2, r, 0] : Fin 3 → ℕ) a + (![1, n, 512] : Fin 3 → ℕ) a ≤ S2x256x512.size a := by
  intro a
  have := Nat.mod_lt k (by decide : 0 < 2)
  fin_cases a
  · show k % 2 + 1 ≤ 2; omega
  · show r + n ≤ 256; omega
  · show 0 + 512 ≤ 512; omega

theorem inb_g (j s : ℕ) : ∀ a, (![32 * (s % 8), 256 * (j % 2)] : Fin 2 → ℕ) a + S32x256.size a ≤ S256x512.size a := by
  intro a
  have := Nat.mod_lt j (by decide : 0 < 2)
  have := Nat.mod_lt s (by decide : 0 < 8)
  fin_cases a
  · show 32 * (s % 8) + 32 ≤ 256; omega
  · show 256 * (j % 2) + 256 ≤ 512; omega

theorem inb_h (j : ℕ) : ∀ a, (![j % 11, 0, 0] : Fin 3 → ℕ) a + S1x8x512.size a ≤ S11x8x512.size a := by
  intro a
  have := Nat.mod_lt j (by decide : 0 < 11)
  fin_cases a
  · show j % 11 + 1 ≤ 11; omega
  · show 0 + 8 ≤ 8; omega
  · show 0 + 512 ≤ 512; omega

theorem inb_w (j : ℕ) : ∀ a, (![j % 11, 0, 0] : Fin 3 → ℕ) a + S1x1024x512.size a ≤ S11x1024x512.size a := by
  intro a
  have := Nat.mod_lt j (by decide : 0 < 11)
  fin_cases a
  · show j % 11 + 1 ≤ 11; omega
  · show 0 + 1024 ≤ 1024; omega
  · show 0 + 512 ≤ 512; omega

theorem inb_d (k : ℕ) : ∀ a, (![2 * (k % 5), 0, 0] : Fin 3 → ℕ) a + S2x256x1024.size a ≤ S11x256x1024.size a := by
  intro a
  have := Nat.mod_lt k (by decide : 0 < 5)
  fin_cases a
  · show 2 * (k % 5) + 2 ≤ 11; omega
  · show 0 + 256 ≤ 256; omega
  · show 0 + 1024 ≤ 1024; omega

theorem inb_d1 : ∀ a, (![10, 0, 0] : Fin 3 → ℕ) a + S1x256x1024.size a ≤ S11x256x1024.size a := by decide
theorem inb_m : ∀ a, (![0, 0, 0] : Fin 3 → ℕ) a + S1x6x1024.size a ≤ S1x6x1024.size a := by decide
theorem inb_n : ∀ a, (![0, 0] : Fin 2 → ℕ) a + S1x1024.size a ≤ S1x1024.size a := by decide
theorem inb_h0 : ∀ a, (![0, 0, 0] : Fin 3 → ℕ) a + S11x8x512.size a ≤ S11x8x512.size a := by decide

theorem inb_a : ∀ a, (![0, 0] : Fin 2 → ℕ) a + S256x1024.size a ≤ S256x1024.size a := by decide
theorem inb_g0 : ∀ a, (![0, 0] : Fin 2 → ℕ) a + S256x512.size a ≤ S256x512.size a := by decide
theorem inb_g1 : ∀ a, (![0, 0] : Fin 2 → ℕ) a + S256x256.size a ≤ S256x512.size a := by decide
theorem inb_y : ∀ a, (![0, 0, 0] : Fin 3 → ℕ) a + S1x256x1024.size a ≤ S1x256x1024.size a := by decide

namespace Pt

variable (p : Pt) (H : ℕ → Vec Ideal S1x8x512 .f32)

/-- The normed and modulated hidden-state block, read back from its scratch. -/
def hb : Vec Ideal S256x1024 .bf16 :=
  p.hv.readCov [⟨Rect.unit ![0, 0] S256x1024.size inb_a, k0_pay4 p.md p.x p.n2⟩] (Rect.unit ![0, 0] S256x1024.size inb_a).toLoadRect

/-- The up projection's first `n` blocks, in the two slots in turn, last first. -/
def ups : ℕ → List (View.Piece (Elt Ideal) S2x256x512 .f32)
  | 0 => []
  | n + 1 => ⟨Rect.unit ![n % 2, 0, 0] S1x256x512.size (inb_u n 0 256 (by decide)), k0_pay6 p.hb (p.w n)⟩ :: ups n

/-- The blocks stored when block `j` is convolved: the next one is projected before. -/
def upsAt (j : ℕ) : List (View.Piece (Elt Ideal) S2x256x512 .f32) := p.ups (min (j + 2) 11)

/-- The rows of block `j` strip `s` starts from. -/
def cur (j s : ℕ) : Vec Ideal S1x32x512 .f32 :=
  p.uv.readCov (p.upsAt j) (Rect.unit (s := S2x256x512) ![j % 2, 32 * (s % 8), 0] S1x32x512.size (inb_u j (32 * (s % 8)) 32 (by omega))).toLoadRect

/-- The eight rows before strip `s`: the carried ones before the first strip. -/
def prev (j : ℕ) : ℕ → Vec Ideal S1x8x512 .f32
  | 0 => H j
  | s + 1 => p.uv.readCov (p.upsAt j) (Rect.unit (s := S2x256x512) ![j % 2, 32 * (s % 7) + 24, 0] S1x8x512.size (inb_u j (32 * (s % 7) + 24) 8 (by omega))).toLoadRect

/-- The gated strips, `8` to a block, after the first `k`, last first. -/
def strips : ℕ → List (View.Piece (Elt Ideal) S256x512 .bf16)
  | 0 => []
  | k + 1 => ⟨Rect.unit ![32 * (k % 8), 256 * (k / 8 % 2)] S32x256.size (inb_g (k / 8) k),
      k0_pay14 (k0_pay8 (p.cw (k / 8))) (p.prev H (k / 8) (k % 8)) (p.cur (k / 8) (k % 8))⟩ :: strips k

/-- The down projection's sum after the first `k` pairs of blocks, last first. -/
def sums : ℕ → List (View.Piece (Elt Ideal) S256x1024 .f32)
  | 0 => [⟨Rect.unit ![0, 0] S256x1024.size inb_a, k0_pay5 (F := Ideal)⟩]
  | k + 1 => ⟨Rect.unit ![0, 0] S256x1024.size inb_a, k0_pay53 (p.av.readCov (sums k) (Rect.unit ![0, 0] S256x1024.size inb_a).toLoadRect)
      (p.gv.readCov (p.strips H (16 * (k + 1))) (Rect.unit (s := S256x512) ![0, 0] S256x512.size inb_g0).toLoadRect) (p.wd2 k)⟩ :: sums k

/-- The whole sum: the last block stands alone. -/
def total : List (View.Piece (Elt Ideal) S256x1024 .f32) :=
  ⟨Rect.unit ![0, 0] S256x1024.size inb_a, k0_pay245 (p.av.readCov (p.sums H 5) (Rect.unit ![0, 0] S256x1024.size inb_a).toLoadRect)
      (p.gv.readCov (p.strips H 88) (Rect.unit (s := S256x512) ![0, 0] S256x256.size inb_g1).toLoadRect) p.wd1⟩ :: p.sums H 5

/-- The block of the result. -/
def res : Vec Ideal S1x256x1024 .f32 :=
  k0_pay246 (k0_pay2 p.md) (k0_pay3 p.x) (p.av.readCov (p.total H) (Rect.unit ![0, 0] S256x1024.size inb_a).toLoadRect) p.nf

/-- The carried rows after the first `n` blocks, last first, over the list `L`: the last eight rows of each block. -/
def halos (L : List (View.Piece (Elt Ideal) S11x8x512 .f32)) : ℕ → List (View.Piece (Elt Ideal) S11x8x512 .f32)
  | 0 => L
  | n + 1 => ⟨Rect.unit ![n % 11, 0, 0] S1x8x512.size (inb_h n), k0_pay28 (p.uv.readCov (p.upsAt n)
      (Rect.unit (s := S2x256x512) ![n % 2, 248, 0] S1x8x512.size (inb_u n 248 8 (by decide))).toLoadRect)⟩ :: halos L n

end Pt

/-- The point's loads, off the memrefs the body is called with and the contents of its blocks. -/
def ptAt (c : Dev nD) (arg2 : Memref sig .tc .vmem S1x256x1024 .f32) (harg2 : arg2.IsWhole) (arg3 : Memref sig .tc .vmem S1x6x1024 .f32) (harg3 : arg3.IsWhole)
    (arg4 : Memref sig .tc .vmem S1x1024 .f32) (harg4 : arg4.IsWhole) (arg5 : Memref sig .tc .vmem S11x1024x512 .bf16) (harg5 : arg5.IsWhole)
    (arg6 : Memref sig .tc .vmem S11x8x512 .f32) (harg6 : arg6.IsWhole) (arg7 : Memref sig .tc .vmem S11x256x1024 .bf16) (harg7 : arg7.IsWhole)
    (arg8 : Memref sig .tc .vmem S1x1024 .f32) (harg8 : arg8.IsWhole) (arg10 : Memref sig .tc .vmem S256x1024 .bf16)
    (arg11 : Memref sig .tc .vmem S256x1024 .f32) (arg13 : Memref sig .tc .vmem S2x256x512 .f32) (arg14 : Memref sig .tc .vmem S256x512 .bf16)
    (x0 : Vec Ideal S1x256x1024 .f32) (x1 : Vec Ideal S1x6x1024 .f32) (x2 : Vec Ideal S1x1024 .f32) (x3 : Vec Ideal S11x1024x512 .bf16)
    (x4 : Vec Ideal S11x8x512 .f32) (x5 : Vec Ideal S11x256x1024 .bf16) (x6 : Vec Ideal S1x1024 .f32) : Pt where
  x := View.readAt (Elt Ideal) arg2.view (Rect.unit ![0, 0, 0] S1x256x1024.size inb_y).toLoadRect (harg2.unread x0)
  md := View.readAt (Elt Ideal) arg3.view (Rect.unit ![0, 0, 0] S1x6x1024.size inb_m).toLoadRect (harg3.unread x1)
  n2 := View.readAt (Elt Ideal) arg4.view (Rect.unit ![0, 0] S1x1024.size inb_n).toLoadRect (harg4.unread x2)
  nf := View.readAt (Elt Ideal) arg8.view (Rect.unit ![0, 0] S1x1024.size inb_n).toLoadRect (harg8.unread x6)
  w j := View.readAt (Elt Ideal) arg5.view (Rect.unit (s := S11x1024x512) ![j % 11, 0, 0] S1x1024x512.size (inb_w j)).toLoadRect (harg5.unread x3)
  cw j := View.readAt (Elt Ideal) arg6.view (Rect.unit (s := S11x8x512) ![j % 11, 0, 0] S1x8x512.size (inb_h j)).toLoadRect (harg6.unread x4)
  wd2 k := View.readAt (Elt Ideal) arg7.view (Rect.unit (s := S11x256x1024) ![2 * (k % 5), 0, 0] S2x256x1024.size (inb_d k)).toLoadRect (harg7.unread x5)
  wd1 := View.readAt (Elt Ideal) arg7.view (Rect.unit (s := S11x256x1024) ![10, 0, 0] S1x256x1024.size inb_d1).toLoadRect (harg7.unread x5)
  hv := arg10.view
  av := arg11.view
  uv := arg13.view
  gv := arg14.view

/-- The carried rows of block `j` where the previous tile left them. -/
def carriedB (arg12 : Memref sig .tc .vmem S11x8x512 .f32) (harg12 : arg12.IsWhole) (xs2 : Vec Ideal S11x8x512 .f32) (j : ℕ) : Vec Ideal S1x8x512 .f32 :=
  View.readAt (Elt Ideal) arg12.view (Rect.unit (s := S11x8x512) ![j % 11, 0, 0] S1x8x512.size (inb_h j)).toLoadRect (harg12.unread xs2)

/-- The carried rows set to zero. -/
def zeroed : List (View.Piece (Elt Ideal) S11x8x512 .f32) := [⟨Rect.unit ![0, 0, 0] S11x8x512.size inb_h0, k0_pay1 (F := Ideal)⟩]

/-- The carried rows of block `j` on the first tile, read back from the zeroed buffer after the stores of the blocks before. -/
def carriedA (p : Pt) (v : View sig .tc .vmem S11x8x512 .f32) (j : ℕ) : Vec Ideal S1x8x512 .f32 :=
  v.readCov (p.halos zeroed j) (Rect.unit (s := S11x8x512) ![j % 11, 0, 0] S1x8x512.size (inb_h j)).toLoadRect

end Cert.FfnIdeal.Body

end
-- ==== Proof.FfnRect.lean ====
/- Loads and stores through literal boxes, at an index given by its coordinates. -/
module

public import Idealize.ShloMosaic.Lib.Pointwise
public import Idealize.ShloMosaic.Lib.Pipeline.Value

@[expose] public section

noncomputable section

namespace Cert.FfnIdeal.Body

open Idealize.ShloMosaic

variable {Val : EltTy → Type} {e : EltTy}

/-- A box of a two-axis shape takes the index to the one its offsets away. -/
theorem emb_ix2 {A B a b : ℕ} (o0 o1 : ℕ) (inb : ∀ x, (![o0, o1] : Fin 2 → ℕ) x + (![a, b] : Fin 2 → ℕ) x ≤ (⟨2, ![A, B]⟩ : Shape).size x)
    (i : Fin a) (j : Fin b) :
    (Rect.unit (s := ⟨2, ![A, B]⟩) ![o0, o1] ![a, b] inb).emb (ix2 i j)
      = ix2 ⟨o0 + i.val, lt_of_lt_of_le (Nat.add_lt_add_left i.isLt _) (inb 0)⟩ ⟨o1 + j.val, lt_of_lt_of_le (Nat.add_lt_add_left j.isLt _) (inb 1)⟩ := by
  funext x
  apply Fin.ext
  rw [Rect.emb_apply]
  fin_cases x
  · show o0 + 1 * i.val = o0 + i.val; omega
  · show o1 + 1 * j.val = o1 + j.val; omega

/-- A box of a three-axis shape likewise. -/
theorem emb_ix3 {A B C a b c : ℕ} (o0 o1 o2 : ℕ)
    (inb : ∀ x, (![o0, o1, o2] : Fin 3 → ℕ) x + (![a, b, c] : Fin 3 → ℕ) x ≤ (⟨3, ![A, B, C]⟩ : Shape).size x)
    (i : Fin a) (j : Fin b) (k : Fin c) :
    (Rect.unit (s := ⟨3, ![A, B, C]⟩) ![o0, o1, o2] ![a, b, c] inb).emb (ix3 i j k)
      = ix3 ⟨o0 + i.val, lt_of_lt_of_le (Nat.add_lt_add_left i.isLt _) (inb 0)⟩ ⟨o1 + j.val, lt_of_lt_of_le (Nat.add_lt_add_left j.isLt _) (inb 1)⟩
          ⟨o2 + k.val, lt_of_lt_of_le (Nat.add_lt_add_left k.isLt _) (inb 2)⟩ := by
  funext x
  apply Fin.ext
  rw [Rect.emb_apply]
  fin_cases x
  · show o0 + 1 * i.val = o0 + i.val; omega
  · show o1 + 1 * j.val = o1 + j.val; omega
  · show o2 + 1 * k.val = o2 + k.val; omega

/-- A load of a box after stores, at an index: what the stores leave there. -/
theorem readCov_ix2 [∀ e, Nonempty (Val e)] {sig : RefSig} {κ : Kind} {sp : Space} {A B a b : ℕ} (v : View sig κ sp ⟨2, ![A, B]⟩ e)
    (L : List (View.Piece Val ⟨2, ![A, B]⟩ e)) (o0 o1 : ℕ)
    (inb : ∀ x, (![o0, o1] : Fin 2 → ℕ) x + (![a, b] : Fin 2 → ℕ) x ≤ (⟨2, ![A, B]⟩ : Shape).size x) (i : Fin a) (j : Fin b) :
    v.readCov L (Rect.unit (s := ⟨2, ![A, B]⟩) ![o0, o1] ![a, b] inb).toLoadRect (ix2 i j)
      = View.canon L (ix2 ⟨o0 + i.val, lt_of_lt_of_le (Nat.add_lt_add_left i.isLt _) (inb 0)⟩ ⟨o1 + j.val, lt_of_lt_of_le (Nat.add_lt_add_left j.isLt _) (inb 1)⟩) := by
  rw [View.readCov_eq_canon']
  exact congrArg (View.canon L) (emb_ix2 o0 o1 inb i j)

/-- The same of three axes. -/
theorem readCov_ix3 [∀ e, Nonempty (Val e)] {sig : RefSig} {κ : Kind} {sp : Space} {A B C a b c : ℕ} (v : View sig κ sp ⟨3, ![A, B, C]⟩ e)
    (L : List (View.Piece Val ⟨3, ![A, B, C]⟩ e)) (o0 o1 o2 : ℕ)
    (inb : ∀ x, (![o0, o1, o2] : Fin 3 → ℕ) x + (![a, b, c] : Fin 3 → ℕ) x ≤ (⟨3, ![A, B, C]⟩ : Shape).size x)
    (i : Fin a) (j : Fin b) (k : Fin c) :
    v.readCov L (Rect.unit (s := ⟨3, ![A, B, C]⟩) ![o0, o1, o2] ![a, b, c] inb).toLoadRect (ix3 i j k)
      = View.canon L (ix3 ⟨o0 + i.val, lt_of_lt_of_le (Nat.add_lt_add_left i.isLt _) (inb 0)⟩ ⟨o1 + j.val, lt_of_lt_of_le (Nat.add_lt_add_left j.isLt _) (inb 1)⟩
          ⟨o2 + k.val, lt_of_lt_of_le (Nat.add_lt_add_left k.isLt _) (inb 2)⟩) := by
  rw [View.readCov_eq_canon']
  exact congrArg (View.canon L) (emb_ix3 o0 o1 o2 inb i j k)

/-- What the last store leaves under its box. -/
theorem canon_hit2 [∀ e, Nonempty (Val e)] {A B a b : ℕ} (o0 o1 : ℕ)
    (inb : ∀ x, (![o0, o1] : Fin 2 → ℕ) x + (![a, b] : Fin 2 → ℕ) x ≤ (⟨2, ![A, B]⟩ : Shape).size x)
    (w : (⟨2, ![a, b]⟩ : Shape).Idx → Val e) (L : List (View.Piece Val ⟨2, ![A, B]⟩ e)) (y0 : Fin A) (y1 : Fin B) (i : Fin a) (j : Fin b)
    (h0 : y0.val = o0 + i.val) (h1 : y1.val = o1 + j.val) :
    View.canon ((⟨Rect.unit ![o0, o1] ![a, b] inb, w⟩ : View.Piece Val ⟨2, ![A, B]⟩ e) :: L) (ix2 y0 y1) = w (ix2 i j) := by
  have h := View.canon_cons_emb (Rect.unit (s := ⟨2, ![A, B]⟩) ![o0, o1] ![a, b] inb) w L (ix2 i j)
  rw [emb_ix2] at h
  rw [← h]
  congr 2 <;> exact Fin.ext (by assumption)

/-- The same of three axes. -/
theorem canon_hit3 [∀ e, Nonempty (Val e)] {A B C a b c : ℕ} (o0 o1 o2 : ℕ)
    (inb : ∀ x, (![o0, o1, o2] : Fin 3 → ℕ) x + (![a, b, c] : Fin 3 → ℕ) x ≤ (⟨3, ![A, B, C]⟩ : Shape).size x)
    (w : (⟨3, ![a, b, c]⟩ : Shape).Idx → Val e) (L : List (View.Piece Val ⟨3, ![A, B, C]⟩ e)) (y0 : Fin A) (y1 : Fin B) (y2 : Fin C)
    (i : Fin a) (j : Fin b) (k : Fin c) (h0 : y0.val = o0 + i.val) (h1 : y1.val = o1 + j.val) (h2 : y2.val = o2 + k.val) :
    View.canon ((⟨Rect.unit ![o0, o1, o2] ![a, b, c] inb, w⟩ : View.Piece Val ⟨3, ![A, B, C]⟩ e) :: L) (ix3 y0 y1 y2) = w (ix3 i j k) := by
  have h := View.canon_cons_emb (Rect.unit (s := ⟨3, ![A, B, C]⟩) ![o0, o1, o2] ![a, b, c] inb) w L (ix3 i j k)
  rw [emb_ix3] at h
  rw [← h]
  congr 2 <;> exact Fin.ext (by assumption)

/-- Off its box the last store changes nothing: the first axis tells. -/
theorem canon_miss2 [∀ e, Nonempty (Val e)] {A B a b : ℕ} (o0 o1 : ℕ)
    (inb : ∀ x, (![o0, o1] : Fin 2 → ℕ) x + (![a, b] : Fin 2 → ℕ) x ≤ (⟨2, ![A, B]⟩ : Shape).size x)
    (w : (⟨2, ![a, b]⟩ : Shape).Idx → Val e) (L : List (View.Piece Val ⟨2, ![A, B]⟩ e)) (y0 : Fin A) (y1 : Fin B)
    (h : ¬ (o0 ≤ y0.val ∧ y0.val < o0 + a ∧ o1 ≤ y1.val ∧ y1.val < o1 + b)) :
    View.canon ((⟨Rect.unit ![o0, o1] ![a, b] inb, w⟩ : View.Piece Val ⟨2, ![A, B]⟩ e) :: L) (ix2 y0 y1) = View.canon L (ix2 y0 y1) := by
  apply View.canon_cons_of_not_mem
  intro hm
  have hm := (Rect.mem_set_unit (inb := inb)).mp hm
  exact h ⟨(hm 0).1, (hm 0).2, (hm 1).1, (hm 1).2⟩

/-- The same of three axes. -/
theorem canon_miss3 [∀ e, Nonempty (Val e)] {A B C a b c : ℕ} (o0 o1 o2 : ℕ)
    (inb : ∀ x, (![o0, o1, o2] : Fin 3 → ℕ) x + (![a, b, c] : Fin 3 → ℕ) x ≤ (⟨3, ![A, B, C]⟩ : Shape).size x)
    (w : (⟨3, ![a, b, c]⟩ : Shape).Idx → Val e) (L : List (View.Piece Val ⟨3, ![A, B, C]⟩ e)) (y0 : Fin A) (y1 : Fin B) (y2 : Fin C)
    (h : ¬ (o0 ≤ y0.val ∧ y0.val < o0 + a)) :
    View.canon ((⟨Rect.unit ![o0, o1, o2] ![a, b, c] inb, w⟩ : View.Piece Val ⟨3, ![A, B, C]⟩ e) :: L) (ix3 y0 y1 y2) = View.canon L (ix3 y0 y1 y2) := by
  apply View.canon_cons_of_not_mem
  intro hm
  have hm := (Rect.mem_set_unit (inb := inb)).mp hm
  exact h ⟨(hm 0).1, (hm 0).2⟩

end Cert.FfnIdeal.Body

end
-- ==== Proof.FfnReal.lean ====
/- Finite arguments give a finite convolution, and at a finite gate the kernel's form of silu is the reference's. -/
module

public import proofs.«01_k».proof.Proof.FfnSpec

@[expose] public section

noncomputable section

namespace Cert.FfnSpec

open Idealize.ShloMosaic

/-- An extended real that is a real. -/
def Re (x : EReal) : Prop := ∃ r : ℝ, x = (r : EReal)

theorem Re.zero : Re 0 := ⟨0, rfl⟩
theorem Re.one : Re 1 := ⟨1, rfl⟩
theorem Re.add {x y : EReal} (hx : Re x) (hy : Re y) : Re (x + y) := by
  obtain ⟨a, rfl⟩ := hx
  obtain ⟨b, rfl⟩ := hy
  exact ⟨a + b, rfl⟩
theorem Re.mul {x y : EReal} (hx : Re x) (hy : Re y) : Re (x * y) := by
  obtain ⟨a, rfl⟩ := hx
  obtain ⟨b, rfl⟩ := hy
  exact ⟨a * b, rfl⟩

/-- A finite sum of reals is one. -/
theorem Re.sum {ι : Type} (s : Finset ι) (f : ι → EReal) (h : ∀ i, Re (f i)) : Re (∑ i ∈ s, f i) := by
  classical
  induction s using Finset.induction_on with
  | empty => simpa using Re.zero
  | insert a s ha ih => rw [Finset.sum_insert ha]; exact (h a).add ih

/-- The norm's divisor. -/
theorem n1024 : Ideal.ofBits .f32 0x44800000#32 = ((1024 : ℝ) : EReal) := by
  simp [Ideal.ofBits, Ideal.ieee, -EReal.coe_mul]; norm_num

/-- The norm's small constant is a positive real. -/
theorem eps_pos : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

/-- A sum of reals taken in the extended reals. -/
theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One half. -/
theorem half_eq : Ideal.ofBits .f32 0x3F000000#32 = ((1 / 2 : ℝ) : EReal) := by
  simp [Ideal.ofBits, Ideal.ieee, -EReal.coe_mul]; norm_num

/-- One over a real row's root mean square is a real. -/
theorem Re.invRms {v : Fin 1024 → EReal} (h : ∀ d, Re (v d)) : Re (Cert.FfnSpec.invRms v) := by
  choose f hf using h
  obtain ⟨e, he, hee⟩ := eps_pos
  have hs : (∑ d, v d * v d) = ((∑ d, f d * f d : ℝ) : EReal) := by
    rw [coe_sum']
    exact Finset.sum_congr rfl fun d _ => by rw [hf, EReal.coe_mul]
  have h0 : 0 ≤ ∑ d, f d * f d := Finset.sum_nonneg fun d _ => mul_self_nonneg _
  unfold Cert.FfnSpec.invRms
  rw [hs, n1024, hee, Ideal.div_coe (by norm_num), ← EReal.coe_mul, ← EReal.coe_add]
  have hp : 0 < (∑ d, f d * f d) * (1 / 1024) + e := by positivity
  refine ⟨(Real.sqrt ((∑ d, f d * f d) * (1 / 1024) + e))⁻¹, ?_⟩
  show (if (∑ d, f d * f d) * (1 / 1024) + e < 0 then ⊥ else if (∑ d, f d * f d) * (1 / 1024) + e = 0 then ⊤ else _ : EReal) = _
  rw [if_neg (not_lt.mpr hp.le), if_neg hp.ne']

/-- The arguments that feed the gate are finite. -/
structure Args.Fin (A : Args) : Prop where
  x : ∀ i, Re (A.x i)
  md : ∀ i, Re (A.md i)
  n2 : ∀ i, Re (A.n2 i)
  w : ∀ i, Re (A.w i)
  cw : ∀ i, Re (A.cw i)

variable {A : Args} (h : A.Fin)
include h

theorem Args.Fin.hid (b : _root_.Fin 8) (l : _root_.Fin 8192) (d : _root_.Fin 1024) : Re (hid A b l d) :=
  ((((h.x _).mul (Re.invRms fun _ => h.x _)).mul (h.n2 _)).mul (Re.one.add (h.md _))).add (h.md _)

theorem Args.Fin.upPad (b : _root_.Fin 8) (n : ℕ) (f : _root_.Fin 5632) : Re (upPad A b n f) := by
  unfold FfnSpec.upPad
  split
  · exact Re.sum _ _ fun d => (h.hid _ _ _).mul (h.w _)
  · exact Re.zero

/-- The convolution of finite arguments is finite. -/
theorem Args.Fin.conv (b : _root_.Fin 8) (l : ℕ) (f : _root_.Fin 5632) : Re (conv A b l f) :=
  (((h.upPad _ _ _).mul (h.cw _)).add ((h.upPad _ _ _).mul (h.cw _))).add ((h.upPad _ _ _).mul (h.cw _))

omit h

/-- Half of `y` gated by its own hyperbolic tangent: the form of silu the kernel computes. -/
def gate (y : EReal) : EReal :=
  Ideal.ofBits .f32 0x3F000000#32 * y * Ideal.tanh (Ideal.ofBits .f32 0x3F000000#32 * y) + Ideal.ofBits .f32 0x3F000000#32 * y

/-- At a real the two forms of silu agree. -/
theorem gate_eq {y : EReal} (hy : Re y) : gate y = silu y := by
  obtain ⟨r, rfl⟩ := hy
  have hne : (1 + Real.exp (-r) : ℝ) ≠ 0 := by positivity
  have h1 : Ideal.div 1 (1 + Ideal.exp (-(r : EReal))) = ((1 / (1 + Real.exp (-r)) : ℝ) : EReal) := by
    rw [← EReal.coe_neg, Ideal.exp_coe, ← EReal.coe_one, ← EReal.coe_add, Ideal.div_coe hne, ← EReal.coe_mul, one_mul]
  have h2 : Ideal.tanh (((1 / 2 : ℝ) : EReal) * (r : EReal)) = ((Real.tanh (1 / 2 * r) : ℝ) : EReal) := rfl
  unfold gate silu
  rw [half_eq, h1, h2, ← EReal.coe_mul, ← EReal.coe_mul, ← EReal.coe_mul, ← EReal.coe_add]
  congr 1
  have e1 : Real.exp (-r) = Real.exp (-(1 / 2 * r)) / Real.exp (1 / 2 * r) := by
    rw [← Real.exp_sub]; congr 1; ring
  have hp := Real.exp_pos (1 / 2 * r)
  have hq := Real.exp_pos (-(1 / 2 * r))
  rw [Real.tanh_eq_sinh_div_cosh, Real.sinh_eq, Real.cosh_eq, e1]
  field_simp
  ring

end Cert.FfnSpec

end
-- ==== Proof.FfnPoint.lean ====
/- One grid point of the kernel's body, entry by entry: what each scratch holds and what the point writes. -/
module

public import proofs.«01_k».proof.Proof.FfnBody
public import proofs.«01_k».proof.Proof.FfnRect
public import proofs.«01_k».proof.Proof.FfnReal

@[expose] public section

set_option maxRecDepth 16384

noncomputable section

namespace Cert.FfnIdeal.Body

open Cert.FfnIdeal Cert.FfnIdeal.Gen Idealize.ShloMosaic Cert.FfnSpec

/-- The hidden-state block's payload. -/
theorem pay4_at (md : Vec Ideal S1x6x1024 .f32) (x : Vec Ideal S1x256x1024 .f32) (n2 : Vec Ideal S1x1024 .f32) (r : Fin 256) (d : Fin 1024) :
    k0_pay4 (F := Ideal) md x n2 (ix2 r d)
      = x (ix3 0 r d) * invRms (fun e => x (ix3 0 r e)) * n2 (ix2 0 d) * (1 + md (ix3 0 4 d)) + md (ix3 0 3 d) := by
  pointwise [k0_pay4, k0_pay2, k0_pay3, invRms]
  simp only [mul_assoc]

/-- An up projection block's payload. -/
theorem pay6_at (h : Vec Ideal S256x1024 .bf16) (w : Vec Ideal S1x1024x512 .bf16) (r : Fin 256) (c : Fin 512) :
    k0_pay6 (F := Ideal) h w (ix3 0 r c) = ∑ k : Fin 1024, h (ix2 r k) * w (ix3 0 k c) := by
  pointwise [k0_pay6]

/-- The carried rows' payload. -/
theorem pay28_at (v : Vec Ideal S1x8x512 .f32) (q : Fin 8) (c : Fin 512) : k0_pay28 (F := Ideal) v (ix3 0 q c) = v (ix3 0 q c) := by
  pointwise [k0_pay28]

/-- The zeroed carried rows. -/
theorem pay1_at (j : Fin 11) (q : Fin 8) (c : Fin 512) : k0_pay1 (F := Ideal) (ix3 j q c) = 0 := by
  pointwise [k0_pay1]

/-- The sum's start. -/
theorem pay5_at (r : Fin 256) (d : Fin 1024) : k0_pay5 (F := Ideal) (ix2 r d) = 0 := by
  pointwise [k0_pay5]

/-- The sum after two more blocks. -/
theorem pay53_at (a : Vec Ideal S256x1024 .f32) (g : Vec Ideal S256x512 .bf16) (w : Vec Ideal S2x256x1024 .bf16) (r : Fin 256) (d : Fin 1024) :
    k0_pay53 (F := Ideal) a g w (ix2 r d) = a (ix2 r d)
      + ∑ k : Fin 512, g (ix2 r k) * w (ix3 ⟨k.val / 256, by omega⟩ ⟨k.val % 256, by omega⟩ d) := by
  pointwise [k0_pay53]

/-- The sum after the last block. -/
theorem pay245_at (a : Vec Ideal S256x1024 .f32) (g : Vec Ideal S256x256 .bf16) (w : Vec Ideal S1x256x1024 .bf16) (r : Fin 256) (d : Fin 1024) :
    k0_pay245 (F := Ideal) a g w (ix2 r d) = a (ix2 r d) + ∑ k : Fin 256, g (ix2 r k) * w (ix3 0 k d) := by
  pointwise [k0_pay245]

/-- The result's payload: the residual sum normed. -/
theorem pay246_at (md : Vec Ideal S1x6x1024 .f32) (x : Vec Ideal S1x256x1024 .f32) (a : Vec Ideal S256x1024 .f32) (nf : Vec Ideal S1x1024 .f32)
    (r : Fin 256) (d : Fin 1024) :
    k0_pay246 (F := Ideal) (k0_pay2 md) (k0_pay3 x) a nf (ix3 0 r d)
      = (x (ix3 0 r d) + md (ix3 0 5 d) * a (ix2 r d))
        * invRms (fun e => x (ix3 0 r e) + md (ix3 0 5 e) * a (ix2 r e)) * nf (ix2 0 d) := by
  pointwise [k0_pay246, k0_pay2, k0_pay3, invRms]

/-- A strip's rows with the eight rows before it in front. -/
def row40 (P : Vec Ideal S1x8x512 .f32) (C : Vec Ideal S1x32x512 .f32) (n : ℕ) (c : Fin 512) : EReal :=
  if h : n < 8 then P (ix3 0 ⟨n, h⟩ c) else if h' : n - 8 < 32 then C (ix3 0 ⟨n - 8, h'⟩ c) else 0

/-- The convolution over a strip. -/
def conv40 (w : Vec Ideal S1x8x512 .f32) (P : Vec Ideal S1x8x512 .f32) (C : Vec Ideal S1x32x512 .f32) (n : ℕ) (c : Fin 512) : EReal :=
  row40 P C (n + 6) c * w (ix3 0 0 c) + row40 P C (n + 7) c * w (ix3 0 1 c) + row40 P C (n + 8) c * w (ix3 0 2 c)

/-- A gated strip's payload. -/
theorem pay14_at (w : Vec Ideal S1x8x512 .f32) (P : Vec Ideal S1x8x512 .f32) (C : Vec Ideal S1x32x512 .f32) (l : Fin 32) (g : Fin 256) :
    k0_pay14 (F := Ideal) (k0_pay8 w) P C (ix2 l g)
      = gate (conv40 w P C l.val ⟨g.val, by omega⟩) * conv40 w P C l.val ⟨256 + g.val, by omega⟩ := by
  have e6 : ∀ c : Fin 512, (if h : 6 + l.val < 8 then P (ix3 0 ⟨6 + l.val, h⟩ c) else C (ix3 0 ⟨6 + l.val - 8, by omega⟩ c)) = row40 P C (l.val + 6) c := by
    intro c
    unfold row40
    by_cases h : 6 + l.val < 8
    · rw [dif_pos h, dif_pos (by omega)]; congr 3; omega
    · rw [dif_neg h, dif_neg (by omega), dif_pos (by omega)]; congr 3; omega
  have e7 : ∀ c : Fin 512, (if h : 7 + l.val < 8 then P (ix3 0 ⟨7 + l.val, h⟩ c) else C (ix3 0 ⟨7 + l.val - 8, by omega⟩ c)) = row40 P C (l.val + 7) c := by
    intro c
    unfold row40
    by_cases h : 7 + l.val < 8
    · rw [dif_pos h, dif_pos (by omega)]; congr 3; omega
    · rw [dif_neg h, dif_neg (by omega), dif_pos (by omega)]; congr 3; omega
  have e8 : ∀ c : Fin 512, C (ix3 0 l c) = row40 P C (l.val + 8) c := by
    intro c
    unfold row40
    rw [dif_neg (by omega), dif_pos (by omega)]; congr 3
  have ec : ∀ c : Fin 512, C (ix3 0 l c) * w (ix3 0 2 c)
      + (if h : 7 + l.val < 8 then P (ix3 0 ⟨7 + l.val, h⟩ c) else C (ix3 0 ⟨7 + l.val - 8, by omega⟩ c)) * w (ix3 0 1 c)
      + (if h : 6 + l.val < 8 then P (ix3 0 ⟨6 + l.val, h⟩ c) else C (ix3 0 ⟨6 + l.val - 8, by omega⟩ c)) * w (ix3 0 0 c) = conv40 w P C l.val c := by
    intro c
    rw [e6, e7, e8]
    unfold conv40
    rw [add_comm (row40 P C (l.val + 8) c * w (ix3 0 2 c)), add_comm _ (row40 P C (l.val + 6) c * w (ix3 0 0 c)), ← add_assoc]
  pointwise [k0_pay14, k0_pay8, gate]
  simp only [ec]

namespace Pt

variable (p : Pt) (H : ℕ → Vec Ideal S1x8x512 .f32)

/-- The hidden-state block is its payload. -/
theorem hb_at (r : Fin 256) (d : Fin 1024) :
    p.hb (ix2 r d) = p.x (ix3 0 r d) * invRms (fun e => p.x (ix3 0 r e)) * p.n2 (ix2 0 d) * (1 + p.md (ix3 0 4 d)) + p.md (ix3 0 3 d) := by
  unfold hb
  rw [View.readCov_cons_toLoadRect, pay4_at]

/-- Entry `(r, c)` of up projection block `j`. -/
def u (j : ℕ) (r : Fin 256) (c : Fin 512) : EReal := ∑ k : Fin 1024, p.hb (ix2 r k) * p.w j (ix3 0 k c)

/-- After `n` blocks the slots hold the last two. -/
theorem ups_at (j : ℕ) (y0 : Fin 2) (y1 : Fin 256) (y2 : Fin 512) (hy : y0.val = j % 2) (n : ℕ) (h1 : j < n) (h2 : n ≤ j + 2) :
    View.canon (p.ups n) (ix3 y0 y1 y2) = p.u j y1 y2 := by
  induction n with
  | zero => omega
  | succ n ih =>
    rcases Nat.lt_or_ge j n with h | h
    · rw [ups]
      refine (canon_miss3 (A := 2) (B := 256) (C := 512) _ _ _ _ _ _ y0 y1 y2 ?_).trans (ih h (by omega))
      omega
    · obtain rfl : j = n := by omega
      rw [ups]
      refine (canon_hit3 (A := 2) (B := 256) (C := 512) (a := 1) (b := 256) (c := 512) _ _ _ _ _ _ y0 y1 y2 0 y1 y2 ?_ ?_ ?_).trans (pay6_at _ _ _ _)
      · simpa using hy
      · simp
      · simp

/-- What a load of block `j` finds. -/
theorem upsAt_at (j : ℕ) (hj : j < 11) (y0 : Fin 2) (y1 : Fin 256) (y2 : Fin 512) (hy : y0.val = j % 2) :
    View.canon (p.upsAt j) (ix3 y0 y1 y2) = p.u j y1 y2 :=
  p.ups_at j y0 y1 y2 hy _ (by omega) (by omega)

/-- Block `j`'s rows with the eight carried rows in front. -/
def E (j n : ℕ) (c : Fin 512) : EReal :=
  if h : n < 8 then H j (ix3 0 ⟨n, h⟩ c) else if h' : n - 8 < 256 then p.u j ⟨n - 8, h'⟩ c else 0

/-- A strip's rows are rows of that. -/
theorem row40_at (j s : ℕ) (hj : j < 11) (hs : s < 8) (n : ℕ) (hn : n < 40) (c : Fin 512) :
    row40 (p.prev H j s) (p.cur j s) n c = p.E H j (32 * s + n) c := by
  unfold row40 E
  by_cases h : n < 8
  · rw [dif_pos h]
    cases s with
    | zero => rw [dif_pos (by omega)]; simp only [prev]; congr 3; omega
    | succ s =>
      rw [dif_neg (by omega), dif_pos (by omega)]
      simp only [prev]
      refine (readCov_ix3 (A := 2) (B := 256) (C := 512) (a := 1) (b := 8) (c := 512) p.uv (p.upsAt j) _ _ _ _ 0 ⟨n, h⟩ c).trans ?_
      refine (p.upsAt_at j hj _ _ _ (by simp)).trans ?_
      congr 1
      · apply Fin.ext; show 32 * (s % 7) + 24 + n = 32 * (s + 1) + n - 8; omega
      · apply Fin.ext; show 0 + c.val = c.val; omega
  · rw [dif_neg h, dif_pos (by omega), dif_neg (by omega), dif_pos (by omega)]
    unfold cur
    refine (readCov_ix3 (A := 2) (B := 256) (C := 512) (a := 1) (b := 32) (c := 512) p.uv (p.upsAt j) _ _ _ _ 0 ⟨n - 8, by omega⟩ c).trans ?_
    refine (p.upsAt_at j hj _ _ _ (by simp)).trans ?_
    congr 1
    · apply Fin.ext; show 32 * (s % 8) + (n - 8) = 32 * s + n - 8; omega
    · apply Fin.ext; show 0 + c.val = c.val; omega

/-- The convolution of block `j` at row `l`. -/
def cv (j l : ℕ) (c : Fin 512) : EReal :=
  p.E H j (l + 6) c * p.cw j (ix3 0 0 c) + p.E H j (l + 7) c * p.cw j (ix3 0 1 c) + p.E H j (l + 8) c * p.cw j (ix3 0 2 c)

/-- The gated entry of block `j` at row `l`. -/
def a (j l : ℕ) (g : Fin 256) : EReal := gate (p.cv H j l ⟨g.val, by omega⟩) * p.cv H j l ⟨256 + g.val, by omega⟩

/-- A strip's convolution. -/
theorem conv40_at (j s : ℕ) (hj : j < 11) (hs : s < 8) (l : Fin 32) (c : Fin 512) :
    conv40 (p.cw j) (p.prev H j s) (p.cur j s) l.val c = p.cv H j (32 * s + l.val) c := by
  unfold conv40 cv
  rw [p.row40_at H j s hj hs _ (by omega), p.row40_at H j s hj hs _ (by omega), p.row40_at H j s hj hs _ (by omega)]
  simp only [Nat.add_assoc]

/-- After `k` strips, block `j`'s half holds the gated block, if its strips are among the last sixteen. -/
theorem strips_at (j : ℕ) (hj : j < 11) (r : Fin 256) (g : Fin 256) (y : Fin 512) (hy : y.val = 256 * (j % 2) + g.val) (k : ℕ)
    (h1 : 8 * j + r.val / 32 < k) (h2 : k ≤ 8 * j + 16) :
    View.canon (p.strips H k) (ix2 r y) = p.a H j r.val g := by
  induction k with
  | zero => omega
  | succ k ih =>
    rcases Nat.lt_or_ge (8 * j + r.val / 32) k with h | h
    · rw [strips]
      refine (canon_miss2 (A := 256) (B := 512) _ _ _ _ _ r y ?_).trans (ih h (by omega))
      omega
    · have hk : k = 8 * j + r.val / 32 := by omega
      have e1 : k / 8 = j := by omega
      have e2 : k % 8 = r.val / 32 := by omega
      rw [strips]
      refine (canon_hit2 (A := 256) (B := 512) (a := 32) (b := 256) _ _ _ _ _ r y ⟨r.val % 32, by omega⟩ g ?_ ?_).trans ?_
      · show r.val = 32 * (k % 8) + r.val % 32; omega
      · rw [hy, e1]
      · rw [pay14_at, e1, e2, p.conv40_at H j _ hj (by omega), p.conv40_at H j _ hj (by omega)]
        unfold a
        simp only
        rw [show 32 * (r.val / 32) + r.val % 32 = r.val by omega]

/-- Column `n` of the gated unit at row `r`. -/
def aN (r : Fin 256) (n : ℕ) : EReal := p.a H (n / 256) r.val ⟨n % 256, Nat.mod_lt _ (by decide)⟩

variable (W : ℕ → Fin 1024 → EReal)

/-- The down projection's sum after `k` pairs of blocks. -/
theorem sums_at (hw : ∀ k, k < 5 → ∀ (q : Fin 512) (d : Fin 1024), p.wd2 k (ix3 ⟨q.val / 256, by omega⟩ ⟨q.val % 256, by omega⟩ d) = W (512 * k + q.val) d)
    (r : Fin 256) (d : Fin 1024) (k : ℕ) (hk : k ≤ 5) :
    p.av.readCov (p.sums H k) (Rect.unit ![0, 0] S256x1024.size inb_a).toLoadRect (ix2 r d)
      = ∑ n ∈ Finset.range (512 * k), p.aN H r n * W n d := by
  induction k with
  | zero =>
    rw [sums, View.readCov_cons_toLoadRect, pay5_at]
    simp
  | succ k ih =>
    rw [sums, View.readCov_cons_toLoadRect, pay53_at, ih (by omega), show 512 * (k + 1) = 512 * k + 512 by ring, Finset.sum_range_add]
    congr 1
    rw [Finset.sum_range]
    refine Finset.sum_congr rfl fun q _ => ?_
    rw [hw k (by omega)]
    congr 1
    refine (readCov_ix2 (A := 256) (B := 512) (a := 256) (b := 512) p.gv _ _ _ _ r q).trans ?_
    refine (p.strips_at H (2 * k + q.val / 256) (by omega) _ ⟨q.val % 256, by omega⟩ _ ?_ _ ?_ ?_).trans ?_
    · show 0 + q.val = 256 * ((2 * k + q.val / 256) % 2) + q.val % 256; omega
    · show 8 * (2 * k + q.val / 256) + (0 + r.val) / 32 < 16 * (k + 1); omega
    · omega
    · unfold aN
      rw [show (512 * k + q.val) / 256 = 2 * k + q.val / 256 by omega]
      congr 1
      · exact Nat.zero_add _
      · apply Fin.ext; show q.val % 256 = (512 * k + q.val) % 256; omega

/-- The whole sum. -/
theorem total_at (hw : ∀ k, k < 5 → ∀ (q : Fin 512) (d : Fin 1024), p.wd2 k (ix3 ⟨q.val / 256, by omega⟩ ⟨q.val % 256, by omega⟩ d) = W (512 * k + q.val) d)
    (hw1 : ∀ (q : Fin 256) (d : Fin 1024), p.wd1 (ix3 0 q d) = W (2560 + q.val) d) (r : Fin 256) (d : Fin 1024) :
    p.av.readCov (p.total H) (Rect.unit ![0, 0] S256x1024.size inb_a).toLoadRect (ix2 r d)
      = ∑ n : Fin 2816, p.aN H r n.val * W n.val d := by
  unfold total
  refine (congrFun (View.readCov_cons_toLoadRect _ _ _ _) _).trans ?_
  refine (pay245_at _ _ _ r d).trans ?_
  rw [p.sums_at H W hw r d 5 le_rfl]
  generalize hf : (fun n => p.aN H r n * W n d) = f
  have e : ∀ N, N = 512 * 5 + 256 → ∑ n : Fin N, f n.val = ∑ n ∈ Finset.range (512 * 5), f n + ∑ x ∈ Finset.range 256, f (512 * 5 + x) := by
    intro N hN
    rw [← Finset.sum_range, hN, Finset.sum_range_add]
  have e := e 2816 (by norm_num)
  subst hf
  refine Eq.trans ?_ e.symm
  congr 1
  rw [Finset.sum_range]
  refine Finset.sum_congr rfl fun q _ => ?_
  rw [hw1]
  congr 1
  refine (readCov_ix2 (A := 256) (B := 512) (a := 256) (b := 256) p.gv _ _ _ _ r q).trans ?_
  refine (p.strips_at H 10 (by omega) _ q _ ?_ _ ?_ ?_).trans ?_
  · simp
  · simp only; omega
  · omega
  · unfold aN
    rw [show (512 * 5 + q.val) / 256 = 10 by omega]
    congr 1
    · simp
    · apply Fin.ext; show q.val = (512 * 5 + q.val) % 256; omega

/-- The result's entry. -/
theorem res_at (hw : ∀ k, k < 5 → ∀ (q : Fin 512) (d : Fin 1024), p.wd2 k (ix3 ⟨q.val / 256, by omega⟩ ⟨q.val % 256, by omega⟩ d) = W (512 * k + q.val) d)
    (hw1 : ∀ (q : Fin 256) (d : Fin 1024), p.wd1 (ix3 0 q d) = W (2560 + q.val) d) (r : Fin 256) (d : Fin 1024) :
    p.res H (ix3 0 r d) = (p.x (ix3 0 r d) + p.md (ix3 0 5 d) * ∑ n : Fin 2816, p.aN H r n.val * W n.val d)
        * invRms (fun e => p.x (ix3 0 r e) + p.md (ix3 0 5 e) * ∑ n : Fin 2816, p.aN H r n.val * W n.val e) * p.nf (ix2 0 d) := by
  unfold res
  rw [pay246_at]
  simp only [p.total_at H W hw hw1]

/-- The stores of the blocks before `j` leave block `j`'s carried rows. -/
theorem halos_miss (L : List (View.Piece (Elt Ideal) S11x8x512 .f32)) (j : Fin 11) (q : Fin 8) (c : Fin 512) (n : ℕ) (hn : n ≤ j.val) :
    View.canon (p.halos L n) (ix3 j q c) = View.canon L (ix3 j q c) := by
  induction n with
  | zero => rfl
  | succ n ih =>
    rw [halos]
    refine (canon_miss3 (A := 11) (B := 8) (C := 512) _ _ _ _ _ _ j q c ?_).trans (ih (by omega))
    omega

/-- Once block `j` is stored, its carried rows are its last eight. -/
theorem halos_hit (L : List (View.Piece (Elt Ideal) S11x8x512 .f32)) (j : Fin 11) (q : Fin 8) (c : Fin 512) (n : ℕ) (h1 : j.val < n) (h2 : n ≤ 11) :
    View.canon (p.halos L n) (ix3 j q c) = p.u j.val ⟨248 + q.val, by omega⟩ c := by
  induction n with
  | zero => omega
  | succ n ih =>
    rw [halos]
    rcases Nat.lt_or_ge j.val n with h | h
    · refine (canon_miss3 (A := 11) (B := 8) (C := 512) _ _ _ _ _ _ j q c ?_).trans (ih h (by omega))
      omega
    · have e : n = j.val := by omega
      subst e
      refine (canon_hit3 (A := 11) (B := 8) (C := 512) (a := 1) (b := 8) (c := 512) _ _ _ _ _ _ j q c 0 q c ?_ ?_ ?_).trans ?_
      · show j.val = j.val % 11 + 0; omega
      · simp
      · simp
      · rw [pay28_at]
        refine (readCov_ix3 (A := 2) (B := 256) (C := 512) (a := 1) (b := 8) (c := 512) p.uv (p.upsAt j.val) _ _ _ _ 0 q c).trans ?_
        refine (p.upsAt_at j.val j.isLt _ _ _ (by simp)).trans ?_
        congr 1
        apply Fin.ext; exact Nat.zero_add _

end Pt

/-- On a sequence's first tile the carried rows are zero. -/
theorem carriedA_at (p : Pt) (v : View sig .tc .vmem S11x8x512 .f32) (j : ℕ) (hj : j < 11) (q : Fin 8) (c : Fin 512) :
    carriedA p v j (ix3 0 q c) = 0 := by
  unfold carriedA
  refine (readCov_ix3 (A := 11) (B := 8) (C := 512) (a := 1) (b := 8) (c := 512) v _ _ _ _ _ 0 q c).trans ?_
  refine (p.halos_miss _ _ _ _ j (by simp only; show j ≤ j % 11 + 0; omega)).trans ?_
  refine (canon_hit3 (A := 11) (B := 8) (C := 512) (a := 11) (b := 8) (c := 512) 0 0 0 inb_h0 _ [] _ _ _ ⟨j, hj⟩ q c ?_ ?_ ?_).trans (pay1_at _ _ _)
  · show j % 11 + 0 = 0 + j; omega
  · rfl
  · rfl

end Cert.FfnIdeal.Body

end
-- ==== Proof.FfnTile.lean ====
/- One tile of the kernel against the call's own function: if the point's blocks are the tile's part of the arguments and its carried
   rows are the rows before the tile, then it writes the tile of the result and carries the rows before the next. -/
module

public import proofs.«01_k».proof.Proof.FfnPoint

@[expose] public section

set_option maxRecDepth 16384

noncomputable section

namespace Cert.FfnIdeal.Body

open Cert.FfnIdeal Cert.FfnIdeal.Gen Idealize.ShloMosaic Cert.FfnSpec

/-- The up projection's column that stands at place `c` of block `j`: the gate's columns first, then the value's. -/
def col (j : ℕ) (c : Fin 512) : Fin 5632 :=
  ⟨if c.val < 256 then 256 * (j % 11) + c.val else 2560 + 256 * (j % 11) + c.val, by have := Nat.mod_lt j (by decide : 0 < 11); split <;> omega⟩

/-- Row `n` of the down projection, zero past its end. -/
def wdN (A : Args) (n : ℕ) (d : Fin 1024) : EReal := if h : n < 2816 then A.wd (ix2 ⟨n, h⟩ d) else 0

/-- Row `r` of tile `t`. -/
def rowOf (t : Fin 32) (r : Fin 256) : Fin 8192 := ⟨256 * t.val + r.val, by omega⟩

/-- The point's blocks are tile `t` of sequence `b`. -/
structure Reads (A : Args) (b : Fin 8) (t : Fin 32) (p : Pt) : Prop where
  x : ∀ r d, p.x (ix3 0 r d) = A.x (ix3 b (rowOf t r) d)
  md : ∀ i d, p.md (ix3 0 i d) = A.md (ix3 b i d)
  n2 : ∀ d, p.n2 (ix2 0 d) = A.n2 (ix1 d)
  nf : ∀ d, p.nf (ix2 0 d) = A.nf (ix1 d)
  w : ∀ j k c, p.w j (ix3 0 k c) = A.w (ix2 k (col j c))
  cw : ∀ j (i : Fin 3) c, p.cw j (ix3 0 ⟨i.val, by omega⟩ c) = A.cw (ix2 i (col j c))
  wd2 : ∀ k, k < 5 → ∀ (q : Fin 512) (d : Fin 1024), p.wd2 k (ix3 ⟨q.val / 256, by omega⟩ ⟨q.val % 256, by omega⟩ d) = wdN A (512 * k + q.val) d
  wd1 : ∀ (q : Fin 256) (d : Fin 1024), p.wd1 (ix3 0 q d) = wdN A (2560 + q.val) d

/-- The carried rows are the eight rows before row `n`. -/
def Carries (A : Args) (b : Fin 8) (n : ℕ) (H : ℕ → Vec Ideal S1x8x512 .f32) : Prop :=
  ∀ j, j < 11 → ∀ (q : Fin 8) (c : Fin 512), H j (ix3 0 q c) = upPad A b (n + q.val) (col j c)

variable {A : Args} {b : Fin 8} {t : Fin 32} {p : Pt} {H : ℕ → Vec Ideal S1x8x512 .f32} (hp : Reads A b t p) (hH : Carries A b (256 * t.val) H)

include hp

/-- The hidden-state block. -/
theorem hb_spec (r : Fin 256) (d : Fin 1024) : p.hb (ix2 r d) = hid A b (rowOf t r) d := by
  rw [p.hb_at, hid]
  simp only [hp.x, hp.md, hp.n2]

/-- An up projection block. -/
theorem u_spec (j : ℕ) (r : Fin 256) (c : Fin 512) : p.u j r c = upPad A b (256 * t.val + 8 + r.val) (col j c) := by
  unfold Pt.u upPad
  rw [dif_pos ⟨by omega, by omega⟩]
  unfold up
  refine Finset.sum_congr rfl fun k _ => ?_
  rw [hb_spec hp, hp.w]
  congr 2
  apply Fin.ext
  show 256 * t.val + r.val = 256 * t.val + 8 + r.val - 8
  omega

include hH

/-- A block's rows with the carried rows in front. -/
theorem E_spec (j : ℕ) (hj : j < 11) (n : ℕ) (hn : n < 264) (c : Fin 512) : p.E H j n c = upPad A b (256 * t.val + n) (col j c) := by
  unfold Pt.E
  by_cases h : n < 8
  · rw [dif_pos h, hH j hj]
  · rw [dif_neg h, dif_pos (by omega), u_spec hp]
    congr 1
    show 256 * t.val + 8 + (n - 8) = 256 * t.val + n
    omega

/-- A block's convolution. -/
theorem cv_spec (j : ℕ) (hj : j < 11) (l : ℕ) (hl : l < 256) (c : Fin 512) : p.cv H j l c = conv A b (256 * t.val + l) (col j c) := by
  unfold Pt.cv conv
  rw [E_spec hp hH j hj _ (by omega), E_spec hp hH j hj _ (by omega), E_spec hp hH j hj _ (by omega)]
  have e0 : p.cw j (ix3 0 0 c) = A.cw (ix2 0 (col j c)) := hp.cw j 0 c
  have e1 : p.cw j (ix3 0 1 c) = A.cw (ix2 1 (col j c)) := hp.cw j 1 c
  have e2 : p.cw j (ix3 0 2 c) = A.cw (ix2 2 (col j c)) := hp.cw j 2 c
  rw [e0, e1, e2]
  simp only [Nat.add_assoc]

variable (hA : A.Fin)
include hA

/-- A row of the gated unit. -/
theorem aN_spec (r : Fin 256) (n : Fin 2816) : p.aN H r n.val = act A b (rowOf t r).val n := by
  unfold Pt.aN Pt.a act
  rw [cv_spec hp hH _ (by omega) _ r.isLt, cv_spec hp hH _ (by omega) _ r.isLt]
  have e1 : col (n.val / 256) ⟨n.val % 256, by omega⟩ = gcol n := by
    apply Fin.ext
    show (if n.val % 256 < 256 then 256 * (n.val / 256 % 11) + n.val % 256 else _) = n.val
    rw [if_pos (by omega)]
    omega
  have e2 : col (n.val / 256) ⟨256 + n.val % 256, by omega⟩ = vcol n := by
    apply Fin.ext
    show (if 256 + n.val % 256 < 256 then _ else 2560 + 256 * (n.val / 256 % 11) + (256 + n.val % 256)) = 2816 + n.val
    rw [if_neg (by omega)]
    omega
  simp only [e1, e2]
  rw [gate_eq (hA.conv _ _ _)]
  rfl

/-- The block of the result. -/
theorem res_spec (r : Fin 256) (d : Fin 1024) : p.res H (ix3 0 r d) = out A b (rowOf t r) d := by
  have e : ∀ d : Fin 1024, p.x (ix3 0 r d) + p.md (ix3 0 5 d) * ∑ n : Fin 2816, p.aN H r n.val * wdN A n.val d = ffn A b (rowOf t r) d := by
    intro d
    rw [hp.x, hp.md]
    unfold ffn
    congr 2
    refine Finset.sum_congr rfl fun n _ => ?_
    rw [aN_spec hp hH hA]
    unfold wdN
    rw [dif_pos n.isLt]
  rw [p.res_at H (wdN A) hp.wd2 hp.wd1, hp.nf, out]
  simp only [e]

omit hA hH

/-- What the point carries on. -/
theorem halos_spec (L : List (View.Piece (Elt Ideal) S11x8x512 .f32)) (j : Fin 11) (q : Fin 8) (c : Fin 512) :
    View.canon (p.halos L 11) (ix3 j q c) = upPad A b (256 * (t.val + 1) + q.val) (col j.val c) := by
  rw [p.halos_hit L j q c 11 j.isLt le_rfl, u_spec hp]
  congr 1
  show 256 * t.val + 8 + (248 + q.val) = _
  omega

/-- On the first tile the rows before are zero. -/
theorem carriedA_spec (v : View sig .tc .vmem S11x8x512 .f32) : Carries A b 0 (carriedA p v) := by
  intro j hj q c
  rw [carriedA_at p v j hj]
  unfold upPad
  rw [dif_neg (by omega)]

end Cert.FfnIdeal.Body

end
-- ==== Proof.FfnHost.lean ====
/- The arrays the host lays out before the call, entry by entry of the arguments. -/
module

public import proofs.«01_k».proof.Proof.FfnTile
public import Idealize.ShloMosaic.Lib.Tactic

@[expose] public section

set_option maxRecDepth 16384

noncomputable section

namespace Cert.FfnIdeal.Body

open Cert.FfnIdeal Cert.FfnIdeal.Gen Cert.FfnIdeal.Facts Idealize.ShloMosaic Idealize.ShloMosaic.TcCoe Cert.FfnSpec

/-- The up projection cut into blocks of a gate half and a value half. -/
def wupBlk (w : FVec Ideal S1024x5632 .f32) : FVec Ideal S11x1024x512 .bf16 :=
  truncf .bf16 (transpose S11x1024x512 [1, 0, 2]
    (concatenate S1024x11x512 2
      [⟨S1024x11x256, shapeCast S1024x11x256 (extractStridedSlice S1024x2816 ![0, 0] w slices_S1024x5632_S1024x2816_0_0) shapeCasts_S1024x2816_S1024x11x256⟩,
       ⟨S1024x11x256, shapeCast S1024x11x256 (extractStridedSlice S1024x2816 ![0, 2816] w slices_S1024x5632_S1024x2816_0_2816) shapeCasts_S1024x2816_S1024x11x256⟩]
      concatenates_S1024x11x256_S1024x11x256_S1024x11x512_d2)
    transposes_S1024x11x512_S11x1024x512_1_0_2) bitsLt_bf16_f32

/-- The taps cut likewise, eight rows to a block. -/
def cwBlk (w : FVec Ideal S3x5632 .f32) : FVec Ideal S11x8x512 .f32 :=
  pad S11x8x512 ![0, 0, 0] ![0, 5, 0] ![0, 0, 0] (transpose S11x3x512 [1, 0, 2]
    (concatenate S3x11x512 2
      [⟨S3x11x256, shapeCast S3x11x256 (extractStridedSlice S3x2816 ![0, 0] w slices_S3x5632_S3x2816_0_0) shapeCasts_S3x2816_S3x11x256⟩,
       ⟨S3x11x256, shapeCast S3x11x256 (extractStridedSlice S3x2816 ![0, 2816] w slices_S3x5632_S3x2816_0_2816) shapeCasts_S3x2816_S3x11x256⟩]
      concatenates_S3x11x256_S3x11x256_S3x11x512_d2)
    transposes_S3x11x512_S11x3x512_1_0_2) (sitofp (F := Ideal) .f32 (constantI S_ 32 0#32)) pads_S11x3x512_S11x8x512_000_050_000 h_S_

/-- The down projection cut into blocks of rows. -/
def wdnBlk (w : FVec Ideal S2816x1024 .f32) : FVec Ideal S11x256x1024 .bf16 :=
  truncf .bf16 (shapeCast S11x256x1024 w shapeCasts_S2816x1024_S11x256x1024) bitsLt_bf16_f32

/-- A norm's weight as a row. -/
def rowBlk (w : FVec Ideal S1024 .f32) : FVec Ideal S1x1024 .f32 := broadcastInDim S1x1024 ![1] bcast_S1024_S1x1024_1 w

/-- A block of the up projection. -/
theorem wupBlk_at (w : FVec Ideal S1024x5632 .f32) (j : Fin 11) (k : Fin 1024) (c : Fin 512) :
    wupBlk w (ix3 j k c) = w (ix2 k (col j.val c)) := by
  have hj : j.val % 11 = j.val := Nat.mod_eq_of_lt j.isLt
  pointwise [wupBlk, col]
  split
  · congr 2; apply Fin.ext; simp only; omega
  · congr 2; apply Fin.ext; simp only; omega

/-- A block's taps. -/
theorem cwBlk_at (w : FVec Ideal S3x5632 .f32) (j : Fin 11) (i : Fin 3) (c : Fin 512) :
    cwBlk w (ix3 j ⟨i.val, by omega⟩ c) = w (ix2 i (col j.val c)) := by
  have hj : j.val % 11 = j.val := Nat.mod_eq_of_lt j.isLt
  pointwise [cwBlk, col]
  split
  · congr 2; apply Fin.ext; simp only; omega
  · congr 2; apply Fin.ext; simp only; omega

/-- A block of the down projection. -/
theorem wdnBlk_at (w : FVec Ideal S2816x1024 .f32) (j : Fin 11) (k : Fin 256) (d : Fin 1024) :
    wdnBlk w (ix3 j k d) = w (ix2 ⟨256 * j.val + k.val, by omega⟩ d) := by
  pointwise [wdnBlk]
  congr 2; apply Fin.ext; simp only; omega

/-- A norm's row. -/
theorem rowBlk_at (w : FVec Ideal S1024 .f32) (d : Fin 1024) : rowBlk w (ix2 0 d) = w (ix1 d) := by
  pointwise [rowBlk]

variable (m : (ℓ : Loc nD τ sig) → Buf (Elt Ideal) ℓ)

/-- The region finds the blocks of the up projection. -/
theorem V_main_v6 (c : Dev nD) : V m c main_v6 = wupBlk (m ((c : Thread nD τ).loc main_arg3)) := by sl_kernel_rfl
/-- The region finds the blocks of taps. -/
theorem V_main_v13 (c : Dev nD) : V m c main_v13 = cwBlk (m ((c : Thread nD τ).loc main_arg4)) := by sl_kernel_rfl
/-- The region finds the blocks of the down projection. -/
theorem V_main_v15 (c : Dev nD) : V m c main_v15 = wdnBlk (m ((c : Thread nD τ).loc main_arg5)) := by sl_kernel_rfl
/-- The region finds the first norm's row. -/
theorem V_main_v16 (c : Dev nD) : V m c main_v16 = rowBlk (m ((c : Thread nD τ).loc main_arg2)) := by sl_kernel_rfl
/-- The region finds the last norm's row. -/
theorem V_main_v17 (c : Dev nD) : V m c main_v17 = rowBlk (m ((c : Thread nD τ).loc main_arg6)) := by sl_kernel_rfl

end Cert.FfnIdeal.Body

end
-- ==== Proof.FfnReads.lean ====
/- What a grid point of the call finds in its blocks: tile `t % 32` of sequence `t / 32`. -/
module

public import proofs.«01_k».proof.Proof.FfnHost

@[expose] public section

set_option maxRecDepth 16384

noncomputable section

namespace Cert.FfnIdeal.Body

open Cert.FfnIdeal Cert.FfnIdeal.Gen Idealize.ShloMosaic Idealize.ShloMosaic.TcCoe Cert.FfnSpec

/-- A load of a box of a whole buffer that holds `x`. -/
theorem readAt_ix3 {e : EltTy} {A B C a b c : ℕ} (M : Memref sig .tc .vmem ⟨3, ![A, B, C]⟩ e) (hM : M.IsWhole) (x : Vec Ideal ⟨3, ![A, B, C]⟩ e) (o0 o1 o2 : ℕ)
    (inb : ∀ x, (![o0, o1, o2] : Fin 3 → ℕ) x + (![a, b, c] : Fin 3 → ℕ) x ≤ (⟨3, ![A, B, C]⟩ : Shape).size x) (i : Fin a) (j : Fin b) (k : Fin c) :
    View.readAt (Elt Ideal) M.view (Rect.unit (s := ⟨3, ![A, B, C]⟩) ![o0, o1, o2] ![a, b, c] inb).toLoadRect (hM.unread x) (ix3 i j k)
      = x (ix3 ⟨o0 + i.val, lt_of_lt_of_le (Nat.add_lt_add_left i.isLt _) (inb 0)⟩ ⟨o1 + j.val, lt_of_lt_of_le (Nat.add_lt_add_left j.isLt _) (inb 1)⟩
          ⟨o2 + k.val, lt_of_lt_of_le (Nat.add_lt_add_left k.isLt _) (inb 2)⟩) := by
  exact (congrFun (hM.read_unread x) _).trans (congrArg x (emb_ix3 o0 o1 o2 inb i j k))

/-- The same of two axes. -/
theorem readAt_ix2 {e : EltTy} {A B a b : ℕ} (M : Memref sig .tc .vmem ⟨2, ![A, B]⟩ e) (hM : M.IsWhole) (x : Vec Ideal ⟨2, ![A, B]⟩ e) (o0 o1 : ℕ)
    (inb : ∀ x, (![o0, o1] : Fin 2 → ℕ) x + (![a, b] : Fin 2 → ℕ) x ≤ (⟨2, ![A, B]⟩ : Shape).size x) (i : Fin a) (j : Fin b) :
    View.readAt (Elt Ideal) M.view (Rect.unit (s := ⟨2, ![A, B]⟩) ![o0, o1] ![a, b] inb).toLoadRect (hM.unread x) (ix2 i j)
      = x (ix2 ⟨o0 + i.val, lt_of_lt_of_le (Nat.add_lt_add_left i.isLt _) (inb 0)⟩ ⟨o1 + j.val, lt_of_lt_of_le (Nat.add_lt_add_left j.isLt _) (inb 1)⟩) := by
  exact (congrFun (hM.read_unread x) _).trans (congrArg x (emb_ix2 o0 o1 inb i j))

/-- The blocks of the hidden states and of the modulation rows, by the point. -/
theorem idx_moving : ∀ t : Fin cfg0.N, win0_0.index t = ![t.val / 32, t.val % 32, 0] ∧ win0_1.index t = ![t.val / 32, 0, 0] :=
  (by decide +kernel : ∀ t : Fin grid0.N, _)

variable (m : (ℓ : Loc nD τ sig) → Buf (Elt Ideal) ℓ) (c : Dev nD) (t : Fin cfg0.N)

theorem lt256 : t.val < 256 := lt_of_lt_of_eq t.isLt N_0

/-- The point's sequence. -/
def seqOf : Fin 8 := ⟨t.val / 32, by have := lt256 t; omega⟩

/-- The point's tile. -/
def tileOf : Fin 32 := ⟨t.val % 32, by omega⟩

/-- The call's arguments as the region finds them. -/
def args : Args where
  x := m ((c : Thread nD τ).loc main_arg0)
  md := m ((c : Thread nD τ).loc main_arg1)
  n2 := m ((c : Thread nD τ).loc main_arg2)
  w := m ((c : Thread nD τ).loc main_arg3)
  cw := m ((c : Thread nD τ).loc main_arg4)
  wd := m ((c : Thread nD τ).loc main_arg5)
  nf := m ((c : Thread nD τ).loc main_arg6)

/-- The hidden states' block. -/
theorem iblk0_at (r : Fin 256) (d : Fin 1024) : iblk m c 0 t (ix3 0 r d) = (args m c).x (ix3 (seqOf t) (rowOf (tileOf t) r) d) := by
  obtain ⟨e, -⟩ := idx_moving t
  have e0 : win0_0.index t 0 = t.val / 32 := congrFun e 0
  have e1 : win0_0.index t 1 = t.val % 32 := congrFun e 1
  have e2 : win0_0.index t 2 = 0 := congrFun e 2
  show V m c main_arg0 (((cfg0.win 0).blk t).view.emb (ix3 0 r d)) = _
  rw [V_main_arg0]
  refine congrArg (m ((c : Thread nD τ).loc main_arg0)) ?_
  funext a
  apply Fin.ext
  match a with
  | ⟨0, _⟩ => show win0_0.index t 0 * 1 + 1 * 0 = t.val / 32; omega
  | ⟨1, _⟩ => show win0_0.index t 1 * 256 + 1 * r.val = 256 * (t.val % 32) + r.val; omega
  | ⟨2, _⟩ => show win0_0.index t 2 * 1024 + 1 * d.val = d.val; omega

/-- The modulation rows' block. -/
theorem iblk1_at (i : Fin 6) (d : Fin 1024) : iblk m c 1 t (ix3 0 i d) = (args m c).md (ix3 (seqOf t) i d) := by
  obtain ⟨-, e⟩ := idx_moving t
  have e0 : win0_1.index t 0 = t.val / 32 := congrFun e 0
  have e1 : win0_1.index t 1 = 0 := congrFun e 1
  have e2 : win0_1.index t 2 = 0 := congrFun e 2
  show V m c main_arg1 (((cfg0.win 1).blk t).view.emb (ix3 0 i d)) = _
  rw [V_main_arg1]
  refine congrArg (m ((c : Thread nD τ).loc main_arg1)) ?_
  funext a
  apply Fin.ext
  match a with
  | ⟨0, _⟩ => show win0_1.index t 0 * 1 + 1 * 0 = t.val / 32; omega
  | ⟨1, _⟩ => show win0_1.index t 1 * 6 + 1 * i.val = i.val; omega
  | ⟨2, _⟩ => show win0_1.index t 2 * 1024 + 1 * d.val = d.val; omega

/-- The first norm's row. -/
theorem iblk2_at (d : Fin 1024) : iblk m c 2 t (ix2 0 d) = (args m c).n2 (ix1 d) := by
  have e : ((cfg0.win 2).blk t).view.emb (ix2 0 d) = (ix2 0 d : S1x1024.Idx) := by
    funext a; apply Fin.ext
    match a with
    | ⟨0, _⟩ => rfl
    | ⟨1, _⟩ => show 0 * 1024 + 1 * d.val = d.val; omega
  show V m c main_v16 (((cfg0.win 2).blk t).view.emb (ix2 0 d)) = _
  rw [e, V_main_v16, rowBlk_at]; rfl

/-- The blocks of the up projection. -/
theorem iblk3_at (j : Fin 11) (k : Fin 1024) (q : Fin 512) : iblk m c 3 t (ix3 j k q) = (args m c).w (ix2 k (col j.val q)) := by
  have e : ((cfg0.win 3).blk t).view.emb (ix3 j k q) = (ix3 j k q : S11x1024x512.Idx) := by
    funext a; apply Fin.ext
    match a with
    | ⟨0, _⟩ => show 0 * 11 + 1 * j.val = j.val; omega
    | ⟨1, _⟩ => show 0 * 1024 + 1 * k.val = k.val; omega
    | ⟨2, _⟩ => show 0 * 512 + 1 * q.val = q.val; omega
  show V m c main_v6 (((cfg0.win 3).blk t).view.emb (ix3 j k q)) = _
  rw [e, V_main_v6, wupBlk_at]; rfl

/-- The blocks of taps. -/
theorem iblk4_at (j : Fin 11) (i : Fin 3) (q : Fin 512) : iblk m c 4 t (ix3 j (⟨i.val, by omega⟩ : Fin 8) q) = (args m c).cw (ix2 i (col j.val q)) := by
  have e : ((cfg0.win 4).blk t).view.emb (ix3 j (⟨i.val, by omega⟩ : Fin 8) q) = (ix3 j (⟨i.val, by omega⟩ : Fin 8) q : S11x8x512.Idx) := by
    funext a; apply Fin.ext
    match a with
    | ⟨0, _⟩ => show 0 * 11 + 1 * j.val = j.val; omega
    | ⟨1, _⟩ => show 0 * 8 + 1 * i.val = i.val; omega
    | ⟨2, _⟩ => show 0 * 512 + 1 * q.val = q.val; omega
  show V m c main_v13 (((cfg0.win 4).blk t).view.emb (ix3 j (⟨i.val, by omega⟩ : Fin 8) q)) = _
  rw [e, V_main_v13, cwBlk_at]; rfl

/-- The blocks of the down projection. -/
theorem iblk5_at (j : Fin 11) (k : Fin 256) (d : Fin 1024) : iblk m c 5 t (ix3 j k d) = (args m c).wd (ix2 ⟨256 * j.val + k.val, by omega⟩ d) := by
  have e : ((cfg0.win 5).blk t).view.emb (ix3 j k d) = (ix3 j k d : S11x256x1024.Idx) := by
    funext a; apply Fin.ext
    match a with
    | ⟨0, _⟩ => show 0 * 11 + 1 * j.val = j.val; omega
    | ⟨1, _⟩ => show 0 * 256 + 1 * k.val = k.val; omega
    | ⟨2, _⟩ => show 0 * 1024 + 1 * d.val = d.val; omega
  show V m c main_v15 (((cfg0.win 5).blk t).view.emb (ix3 j k d)) = _
  rw [e, V_main_v15, wdnBlk_at]; rfl

/-- The last norm's row. -/
theorem iblk6_at (d : Fin 1024) : iblk m c 6 t (ix2 0 d) = (args m c).nf (ix1 d) := by
  have e : ((cfg0.win 6).blk t).view.emb (ix2 0 d) = (ix2 0 d : S1x1024.Idx) := by
    funext a; apply Fin.ext
    match a with
    | ⟨0, _⟩ => rfl
    | ⟨1, _⟩ => show 0 * 1024 + 1 * d.val = d.val; omega
  show V m c main_v17 (((cfg0.win 6).blk t).view.emb (ix2 0 d)) = _
  rw [e, V_main_v17, rowBlk_at]; rfl

/-- The point's loads. -/
def pt : Pt := ptAt c (ms0_0 t) (hs0_0 t) (ms0_1 t) (hs0_1 t) (ms0_2 t) (hs0_2 t) (ms0_3 t) (hs0_3 t) (ms0_4 t) (hs0_4 t) (ms0_5 t) (hs0_5 t)
  (ms0_6 t) (hs0_6 t) scM0_0 scM0_1 scM0_3 scM0_4 (iblk m c 0 t) (iblk m c 1 t) (iblk m c 2 t) (iblk m c 3 t) (iblk m c 4 t) (iblk m c 5 t) (iblk m c 6 t)

/-- They are the point's tile of the arguments. -/
theorem pt_reads : Reads (args m c) (seqOf t) (tileOf t) (pt m c t) where
  x r d := by
    refine (readAt_ix3 (A := 1) (B := 256) (C := 1024) (a := 1) (b := 256) (c := 1024) (ms0_0 t) (hs0_0 t) (iblk m c 0 t) 0 0 0 _ 0 r d).trans ?_
    refine Eq.trans ?_ (iblk0_at m c t r d)
    congr 2 <;> (apply Fin.ext; exact Nat.zero_add _)
  md i d := by
    refine (readAt_ix3 (A := 1) (B := 6) (C := 1024) (a := 1) (b := 6) (c := 1024) (ms0_1 t) (hs0_1 t) (iblk m c 1 t) 0 0 0 _ 0 i d).trans ?_
    refine Eq.trans ?_ (iblk1_at m c t i d)
    congr 2 <;> (apply Fin.ext; exact Nat.zero_add _)
  n2 d := by
    refine (readAt_ix2 (A := 1) (B := 1024) (a := 1) (b := 1024) (ms0_2 t) (hs0_2 t) (iblk m c 2 t) 0 0 _ 0 d).trans ?_
    refine Eq.trans ?_ (iblk2_at m c t d)
    congr 2; apply Fin.ext; exact Nat.zero_add _
  nf d := by
    refine (readAt_ix2 (A := 1) (B := 1024) (a := 1) (b := 1024) (ms0_6 t) (hs0_6 t) (iblk m c 6 t) 0 0 _ 0 d).trans ?_
    refine Eq.trans ?_ (iblk6_at m c t d)
    congr 2; apply Fin.ext; exact Nat.zero_add _
  w j k q := by
    refine (readAt_ix3 (A := 11) (B := 1024) (C := 512) (a := 1) (b := 1024) (c := 512) (ms0_3 t) (hs0_3 t) (iblk m c 3 t) (j % 11) 0 0 (inb_w j) 0 k q).trans ?_
    refine Eq.trans ?_ ((iblk3_at m c t ⟨j % 11, Nat.mod_lt _ (by decide)⟩ k q).trans ?_)
    · congr 2 <;> (apply Fin.ext; exact Nat.zero_add _)
    · unfold col; simp only [Nat.mod_mod]
  cw j i q := by
    refine (readAt_ix3 (A := 11) (B := 8) (C := 512) (a := 1) (b := 8) (c := 512) (ms0_4 t) (hs0_4 t) (iblk m c 4 t) (j % 11) 0 0 (inb_h j) 0 ⟨i.val, by omega⟩ q).trans ?_
    refine Eq.trans ?_ ((iblk4_at m c t ⟨j % 11, Nat.mod_lt _ (by decide)⟩ i q).trans ?_)
    · congr 2 <;> (apply Fin.ext; exact Nat.zero_add _)
    · unfold col; simp only [Nat.mod_mod]
  wd2 k hk q d := by
    refine (readAt_ix3 (A := 11) (B := 256) (C := 1024) (a := 2) (b := 256) (c := 1024) (ms0_5 t) (hs0_5 t) (iblk m c 5 t) (2 * (k % 5)) 0 0 (inb_d k)
      ⟨q.val / 256, by omega⟩ ⟨q.val % 256, by omega⟩ d).trans ?_
    refine Eq.trans ?_ ((iblk5_at m c t ⟨2 * k + q.val / 256, by omega⟩ ⟨q.val % 256, by omega⟩ d).trans ?_)
    · congr 2 <;> (apply Fin.ext; simp only; omega)
    · unfold wdN
      rw [dif_pos (by omega)]
      congr 2
      apply Fin.ext; simp only; omega
  wd1 q d := by
    refine (readAt_ix3 (A := 11) (B := 256) (C := 1024) (a := 1) (b := 256) (c := 1024) (ms0_5 t) (hs0_5 t) (iblk m c 5 t) 10 0 0 inb_d1 0 q d).trans ?_
    refine Eq.trans ?_ ((iblk5_at m c t ⟨10, by omega⟩ q d).trans ?_)
    · congr 2 <;> (apply Fin.ext; exact Nat.zero_add _)
    · unfold wdN
      rw [dif_pos (by omega)]
      rfl

end Cert.FfnIdeal.Body

end
-- ==== Proof.FfnRunA.lean ====
/- The body's run in case A (the first tile of a sequence: the carried rows are set to zero first) leaves the lists of stores of `FfnBody`. -/
module

public import proofs.«01_k».proof.Proof.FfnBody
public import proofs.«01_k».proof.Proof.FfnRect

@[expose] public section

set_option maxRecDepth 16384

noncomputable section

namespace Cert.FfnIdeal.Body

open Cert.FfnIdeal Cert.FfnIdeal.Gen Idealize.ShloMosaic Idealize.ShloMosaic.TcCoe Idealize.SL.Sem

variable (c : Dev nD) (i : grid0.Coords) (arg2 : Memref sig .tc .vmem S1x256x1024 .f32) (harg2 : arg2.IsWhole)
    (arg3 : Memref sig .tc .vmem S1x6x1024 .f32) (harg3 : arg3.IsWhole) (arg4 : Memref sig .tc .vmem S1x1024 .f32) (harg4 : arg4.IsWhole)
    (arg5 : Memref sig .tc .vmem S11x1024x512 .bf16) (harg5 : arg5.IsWhole) (arg6 : Memref sig .tc .vmem S11x8x512 .f32)
    (harg6 : arg6.IsWhole) (arg7 : Memref sig .tc .vmem S11x256x1024 .bf16) (harg7 : arg7.IsWhole) (arg8 : Memref sig .tc .vmem S1x1024 .f32)
    (harg8 : arg8.IsWhole) (arg9 : Memref sig .tc .vmem S1x256x1024 .f32) (harg9 : arg9.IsWhole)
    (arg10 : Memref sig .tc .vmem S256x1024 .bf16) (harg10 : arg10.IsWhole) (arg11 : Memref sig .tc .vmem S256x1024 .f32)
    (harg11 : arg11.IsWhole) (arg12 : Memref sig .tc .vmem S11x8x512 .f32) (harg12 : arg12.IsWhole)
    (arg13 : Memref sig .tc .vmem S2x256x512 .f32) (harg13 : arg13.IsWhole) (arg14 : Memref sig .tc .vmem S256x512 .bf16)
    (harg14 : arg14.IsWhole) (hc0 : cond0_0 i) (x0 : Vec Ideal S1x256x1024 .f32) (x1 : Vec Ideal S1x6x1024 .f32)
    (x2 : Vec Ideal S1x1024 .f32) (x3 : Vec Ideal S11x1024x512 .bf16) (x4 : Vec Ideal S11x8x512 .f32) (x5 : Vec Ideal S11x256x1024 .bf16)
    (x6 : Vec Ideal S1x1024 .f32)

/-- The result's block. -/
theorem runA_out :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).1
      = [⟨Rect.unit ![0, 0, 0] S1x256x1024.size inb_y, (ptAt c arg2 harg2 arg3 harg3 arg4 harg4 arg5 harg5 arg6 harg6 arg7 harg7 arg8 harg8 arg10 arg11 arg13 arg14 x0 x1 x2 x3 x4 x5 x6).res (carriedA (ptAt c arg2 harg2 arg3 harg3 arg4 harg4 arg5 harg5 arg6 harg6 arg7 harg7 arg8 harg8 arg10 arg11 arg13 arg14 x0 x1 x2 x3 x4 x5 x6) arg12.view)⟩] := by sl_kernel_rfl

/-- The rows carried to the next tile. -/
theorem runA_halo :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.1
      = (ptAt c arg2 harg2 arg3 harg3 arg4 harg4 arg5 harg5 arg6 harg6 arg7 harg7 arg8 harg8 arg10 arg11 arg13 arg14 x0 x1 x2 x3 x4 x5 x6).halos zeroed 11 := by sl_kernel_rfl

/-- What the point leaves of the result, at an index. -/
theorem outA_at (r : Fin 256) (d : Fin 1024) :
    out0_A_7 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 (ix3 0 r d)
      = (ptAt c arg2 harg2 arg3 harg3 arg4 harg4 arg5 harg5 arg6 harg6 arg7 harg7 arg8 harg8 arg10 arg11 arg13 arg14 x0 x1 x2 x3 x4 x5 x6).res (carriedA (ptAt c arg2 harg2 arg3 harg3 arg4 harg4 arg5 harg5 arg6 harg6 arg7 harg7 arg8 harg8 arg10 arg11 arg13 arg14 x0 x1 x2 x3 x4 x5 x6) arg12.view) (ix3 0 r d) :=
  (congrFun ((View.read_writes_junk_eq_canon VO0_7 _).trans (congrArg View.canon (runA_out c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6))) _).trans
    (canon_hit3 (A := 1) (B := 256) (C := 1024) (a := 1) (b := 256) (c := 1024) 0 0 0 inb_y _ [] 0 r d 0 r d rfl (Nat.zero_add _).symm (Nat.zero_add _).symm)

/-- What the point leaves for the next tile. -/
theorem haloA_eq :
    sout0_A_2 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6
      = View.canon ((ptAt c arg2 harg2 arg3 harg3 arg4 harg4 arg5 harg5 arg6 harg6 arg7 harg7 arg8 harg8 arg10 arg11 arg13 arg14 x0 x1 x2 x3 x4 x5 x6).halos zeroed 11) :=
  (View.read_writes_junk_eq_canon VS0_2 _).trans (congrArg View.canon (runA_halo c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6))

end Cert.FfnIdeal.Body

end
-- ==== Proof.FfnRunB.lean ====
/- The body's run in case B (a later tile: the carried rows are the previous tile's) leaves the lists of stores of `FfnBody`. -/
module

public import proofs.«01_k».proof.Proof.FfnBody
public import proofs.«01_k».proof.Proof.FfnRect

@[expose] public section

set_option maxRecDepth 16384

noncomputable section

namespace Cert.FfnIdeal.Body

open Cert.FfnIdeal Cert.FfnIdeal.Gen Idealize.ShloMosaic Idealize.ShloMosaic.TcCoe Idealize.SL.Sem

variable (c : Dev nD) (i : grid0.Coords) (arg2 : Memref sig .tc .vmem S1x256x1024 .f32) (harg2 : arg2.IsWhole)
    (arg3 : Memref sig .tc .vmem S1x6x1024 .f32) (harg3 : arg3.IsWhole) (arg4 : Memref sig .tc .vmem S1x1024 .f32) (harg4 : arg4.IsWhole)
    (arg5 : Memref sig .tc .vmem S11x1024x512 .bf16) (harg5 : arg5.IsWhole) (arg6 : Memref sig .tc .vmem S11x8x512 .f32)
    (harg6 : arg6.IsWhole) (arg7 : Memref sig .tc .vmem S11x256x1024 .bf16) (harg7 : arg7.IsWhole) (arg8 : Memref sig .tc .vmem S1x1024 .f32)
    (harg8 : arg8.IsWhole) (arg9 : Memref sig .tc .vmem S1x256x1024 .f32) (harg9 : arg9.IsWhole)
    (arg10 : Memref sig .tc .vmem S256x1024 .bf16) (harg10 : arg10.IsWhole) (arg11 : Memref sig .tc .vmem S256x1024 .f32)
    (harg11 : arg11.IsWhole) (arg12 : Memref sig .tc .vmem S11x8x512 .f32) (harg12 : arg12.IsWhole)
    (arg13 : Memref sig .tc .vmem S2x256x512 .f32) (harg13 : arg13.IsWhole) (arg14 : Memref sig .tc .vmem S256x512 .bf16)
    (harg14 : arg14.IsWhole) (hc0 : ¬cond0_0 i) (x0 : Vec Ideal S1x256x1024 .f32) (x1 : Vec Ideal S1x6x1024 .f32)
    (x2 : Vec Ideal S1x1024 .f32) (x3 : Vec Ideal S11x1024x512 .bf16) (x4 : Vec Ideal S11x8x512 .f32) (x5 : Vec Ideal S11x256x1024 .bf16)
    (x6 : Vec Ideal S1x1024 .f32) (xs2 : Vec Ideal S11x8x512 .f32)

/-- The result's block. -/
theorem runB_out :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs2).1
      = [⟨Rect.unit ![0, 0, 0] S1x256x1024.size inb_y, (ptAt c arg2 harg2 arg3 harg3 arg4 harg4 arg5 harg5 arg6 harg6 arg7 harg7 arg8 harg8 arg10 arg11 arg13 arg14 x0 x1 x2 x3 x4 x5 x6).res (carriedB arg12 harg12 xs2)⟩] := by sl_kernel_rfl

/-- The rows carried to the next tile. -/
theorem runB_halo :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs2).2.1
      = (ptAt c arg2 harg2 arg3 harg3 arg4 harg4 arg5 harg5 arg6 harg6 arg7 harg7 arg8 harg8 arg10 arg11 arg13 arg14 x0 x1 x2 x3 x4 x5 x6).halos [] 11 := by sl_kernel_rfl

/-- What the point leaves of the result, at an index. -/
theorem outB_at (r : Fin 256) (d : Fin 1024) :
    out0_B_7 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs2 (ix3 0 r d)
      = (ptAt c arg2 harg2 arg3 harg3 arg4 harg4 arg5 harg5 arg6 harg6 arg7 harg7 arg8 harg8 arg10 arg11 arg13 arg14 x0 x1 x2 x3 x4 x5 x6).res (carriedB arg12 harg12 xs2) (ix3 0 r d) :=
  (congrFun ((View.read_writes_junk_eq_canon VO0_7 _).trans (congrArg View.canon (runB_out c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs2))) _).trans
    (canon_hit3 (A := 1) (B := 256) (C := 1024) (a := 1) (b := 256) (c := 1024) 0 0 0 inb_y _ [] 0 r d 0 r d rfl (Nat.zero_add _).symm (Nat.zero_add _).symm)

/-- What the point leaves for the next tile. -/
theorem haloB_eq :
    sout0_B_2 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs2
      = View.canon ((ptAt c arg2 harg2 arg3 harg3 arg4 harg4 arg5 harg5 arg6 harg6 arg7 harg7 arg8 harg8 arg10 arg11 arg13 arg14 x0 x1 x2 x3 x4 x5 x6).halos [] 11) :=
  (View.read_writes_junk_eq_canon VS0_2 _).trans (congrArg View.canon (runB_halo c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs2))

end Cert.FfnIdeal.Body

end
-- ==== Proof.FfnKernelValue.lean ====
/- The call's result: by induction over the grid points each tile is written with its part of the result and hands on the rows
   the next one convolves with. -/
module

public import proofs.«01_k».proof.Proof.FfnReads
public import proofs.«01_k».proof.Proof.FfnRunA
public import proofs.«01_k».proof.Proof.FfnRunB

@[expose] public section

set_option maxRecDepth 16384

noncomputable section

namespace Cert.FfnIdeal.Body

open Cert.FfnIdeal Cert.FfnIdeal.Gen Idealize.ShloMosaic Idealize.ShloMosaic.TcCoe Cert.FfnSpec

variable (m : (ℓ : Loc nD τ sig) → Buf (Elt Ideal) ℓ) (c : Dev nD)

/-- An array read at equal indices. -/
theorem ix3_congr {α : Type} {a b c : ℕ} (f : (⟨3, ![a, b, c]⟩ : Shape).Idx → α) {i i' : Fin a} {j j' : Fin b} {k k' : Fin c}
    (hi : i.val = i'.val) (hj : j.val = j'.val) (hk : k.val = k'.val) : f (ix3 i j k) = f (ix3 i' j' k') := by
  rw [Fin.ext hi, Fin.ext hj, Fin.ext hk]

/-- What a point writes on a sequence's first tile. -/
theorem out_A (t : Fin cfg0.N) (h : t.val % 32 = 0) (r : Fin 256) (d : Fin 1024) :
    (outsAt0 m c t.val t.isLt).1 (ix3 0 r d) = (pt m c t).res (carriedA (pt m c t) scM0_2.view) (ix3 0 r d) := by
  rw [outsAt0_A m c t h]
  dsimp only
  rw [outA_at]
  rfl

/-- What it writes on a later tile. -/
theorem out_B (t : Fin cfg0.N) (h : ¬ t.val % 32 = 0) (r : Fin 256) (d : Fin 1024) :
    (outsAt0 m c t.val t.isLt).1 (ix3 0 r d)
      = (pt m c t).res (carriedB scM0_2 (Memref.isWhole_whole _) (outsAt0 m c (t.val - 1) (Nat.lt_of_le_of_lt (Nat.sub_le _ _) t.isLt)).2) (ix3 0 r d) := by
  rw [outsAt0_B m c t h]
  dsimp only
  rw [outB_at]
  rfl

/-- What a point hands on: the last eight rows of its up projection, block by block. -/
theorem halo_at (t : Fin cfg0.N) : ∃ L, (outsAt0 m c t.val t.isLt).2 = View.canon ((pt m c t).halos L 11) := by
  by_cases h : t.val % 32 = 0
  · refine ⟨zeroed, ?_⟩
    rw [outsAt0_A m c t h]
    dsimp only
    rw [haloA_eq]
    rfl
  · refine ⟨[], ?_⟩
    rw [outsAt0_B m c t h]
    dsimp only
    rw [haloB_eq]
    rfl

/-- … which are the eight rows before the next tile. -/
theorem halo_spec (t : Fin cfg0.N) (j : Fin 11) (q : Fin 8) (k : Fin 512) :
    (outsAt0 m c t.val t.isLt).2 (ix3 j q k) = upPad (args m c) (seqOf t) (256 * (t.val % 32 + 1) + q.val) (col j.val k) := by
  obtain ⟨L, hL⟩ := halo_at m c t
  rw [hL]
  exact halos_spec (pt_reads m c t) L j q k

/-- Each point writes its tile of the result. -/
theorem out_spec (hA : (args m c).Fin) (t : Fin cfg0.N) (r : Fin 256) (d : Fin 1024) :
    (outsAt0 m c t.val t.isLt).1 (ix3 0 r d) = out (args m c) (seqOf t) (rowOf (tileOf t) r) d := by
  by_cases h : t.val % 32 = 0
  · rw [out_A m c t h]
    refine res_spec (pt_reads m c t) ?_ hA r d
    have e : 256 * (tileOf t).val = 0 := by show 256 * (t.val % 32) = 0; omega
    rw [e]
    exact carriedA_spec (pt_reads m c t) _
  · rw [out_B m c t h]
    refine res_spec (pt_reads m c t) ?_ hA r d
    intro j hj q k
    have ht : t.val - 1 < cfg0.N := Nat.lt_of_le_of_lt (Nat.sub_le _ _) t.isLt
    refine (readAt_ix3 (A := 11) (B := 8) (C := 512) (a := 1) (b := 8) (c := 512) scM0_2 (Memref.isWhole_whole _) _ (j % 11) 0 0 (inb_h j) 0 q k).trans ?_
    refine Eq.trans ?_ ((halo_spec m c ⟨t.val - 1, ht⟩ ⟨j, hj⟩ q k).trans ?_)
    · exact ix3_congr _ (show j % 11 + 0 = j by omega) (Nat.zero_add _) (Nat.zero_add _)
    · have e1 : seqOf ⟨t.val - 1, ht⟩ = seqOf t := by
        apply Fin.ext; show (t.val - 1) / 32 = t.val / 32; omega
      rw [e1]
      congr 1
      show 256 * ((t.val - 1) % 32 + 1) + q.val = 256 * (t.val % 32) + q.val
      omega

/-- The array the call leaves is the feed-forward function of the arguments. -/
theorem G7_eq (hA : (args m c).Fin) (b : Fin 8) (l : Fin 8192) (d : Fin 1024) :
    Cert.FfnIdeal.Value.G7 m c (ix3 b l d) = out (args m c) b l d := by
  have hN : cfg0.N = 256 := N_0
  have hp : Cert.FfnIdeal.Value.pt7Of (ix3 b l d) = 32 * b.val + l.val / 256 := by
    show 32 * (b.val / 1 - 0) + 1 * (l.val / 256 - 0) + 1 * (d.val / 1024 - 0) = _
    omega
  have hlt : Cert.FfnIdeal.Value.pt7Of (ix3 b l d) < cfg0.N := by rw [hp, hN]; omega
  unfold Cert.FfnIdeal.Value.G7
  rw [dif_pos hlt, ← Cert.FfnIdeal.Value.outsAt0_sweep m c _ hlt]
  have el : Cert.FfnIdeal.Value.loc7Of (ix3 b l d) = (ix3 0 ⟨l.val % 256, by omega⟩ d : S1x256x1024.Idx) := by
    funext a; apply Fin.ext
    match a with
    | ⟨0, _⟩ => show b.val % 1 = 0; omega
    | ⟨1, _⟩ => rfl
    | ⟨2, _⟩ => show d.val % 1024 = d.val; omega
  rw [el]
  refine (out_spec m c hA ⟨_, hlt⟩ ⟨l.val % 256, by omega⟩ d).trans ?_
  congr 1
  · apply Fin.ext
    show Cert.FfnIdeal.Value.pt7Of (ix3 b l d) / 32 = b.val
    rw [hp]; omega
  · apply Fin.ext
    show 256 * (Cert.FfnIdeal.Value.pt7Of (ix3 b l d) % 32) + l.val % 256 = l.val
    rw [hp]; omega

end Cert.FfnIdeal.Body

end
-- ==== Proof.FfnFinite.lean ====
/- The precondition: an absolute value below infinity is a real number. -/
module

public import proofs.«01_k».proof.Defs
public import proofs.«01_k».proof.Proof.FfnReads

@[expose] public section

noncomputable section

namespace Cert.FfnIdeal.Body

open Idealize.ShloMosaic Cert.FfnSpec

/-- The pattern the precondition compares with is infinity. -/
theorem inf_eq : Ideal.ofBits .f32 0x7F800000#32 = (⊤ : EReal) := by
  simp [Ideal.ofBits, Ideal.ieee]

/-- What the comparison says of one entry. -/
theorem re_of_lt {x : EReal} (h : Ideal.cmp .olt (max x (-x)) (Ideal.ofBits .f32 0x7F800000#32) = 1#1) : Re x := by
  rw [inf_eq] at h
  have h1 : max x (-x) < ⊤ := by
    by_contra hn
    simp [Ideal.cmp, hn] at h
  induction x with
  | bot => simp at h1
  | top => simp at h1
  | coe r => exact ⟨r, rfl⟩

/-- The precondition says that the arguments the gate is computed from are real numbers. -/
theorem args_fin [Cert.Pre_ffn_finite.Facts] {m : (ℓ : Loc Cert.FfnIdeal.nD Cert.FfnIdeal.τ Cert.FfnIdeal.sig) → Buf (Elt Ideal) ℓ}
    (h : Cert.Pre_FfnIdeal_ffn_finite m) (c : Dev Cert.FfnIdeal.nD) : (args m c).Fin := by
  obtain ⟨h0, h1, h2, h3, h4⟩ := h c
  exact ⟨fun i => re_of_lt (congrFun h0 i), fun i => re_of_lt (congrFun h1 i), fun i => re_of_lt (congrFun h2 i),
    fun i => re_of_lt (congrFun h3 i), fun i => re_of_lt (congrFun h4 i)⟩

end Cert.FfnIdeal.Body

end
-- ==== Proof.InnerRefValue.lean ====
/- The inner layers' reference's result, read entry by entry: it is the residual sum of FfnSpec. -/
module

public import proofs.«01_k».proof.Proof.Gen.InnerRefIdeal.Read
public import proofs.«01_k».proof.Proof.FfnSpec

@[expose] public section

set_option maxRecDepth 16384

noncomputable section

namespace Cert.InnerRefIdeal.Value

open Idealize.ShloMosaic Cert.InnerRefIdeal.Read Cert.FfnSpec

variable [Facts]

variable (A : Args)

/-- The reference's normed and modulated hidden state. -/
theorem ref_hid (b : Fin 8) (l : Fin 8192) (d : Fin 1024) :
    val_main_v21 (F := Ideal) A.x A.md A.n2 (ix3 b l d) = hid A b l d := by
  pointwise [val_main_v21, val_main_v20, val_main_v19, val_main_v18, val_main_v17, val_main_v16, val_main_cst_2, val_main_v15,
    val_main_v14, val_main_v13, val_main_v12, val_main_v11, val_main_v10, val_main_v9, val_main_v8, val_main_cst_1, val_main_v7,
    val_main_v6, val_main_cst_0, val_main_v5, val_main_v4, val_main_cst, val_main_v3, val_main_v2, val_main_v1, val_main_v0, hid, invRms]

/-- The reference's up projection. -/
theorem ref_up (b : Fin 8) (l : Fin 8192) (f : Fin 5632) :
    val_main_v22 (F := Ideal) A.x A.md A.n2 A.w (ix3 b l f) = up A b l f := by
  pointwise [val_main_v22, up, ref_hid]

/-- The reference's padded up projection: two rows of zeros in front. -/
theorem ref_pad (b : Fin 8) (n : Fin 8194) (f : Fin 5632) :
    val_main_v23 (F := Ideal) A.x A.md A.n2 A.w (ix3 b n f) = upPad A b (n.val + 6) f := by
  pointwise [val_main_v23, val_main_call0_v0, val_main_c, upPad, ref_up]
  have hz : (FloatOps.sitofp (F := Ideal) FTy.f32 0#32 : EReal) = 0 := by
    show (((0#32 : BitVec 32).toInt : ℝ) : EReal) = 0
    norm_num
  rw [hz]
  simp only [Nat.reduceSubDiff]

/-- The reference's convolution: its three shifted products. -/
theorem ref_conv (b : Fin 8) (l : Fin 8192) (f : Fin 5632) :
    val_main_v45 (F := Ideal) A.x A.md A.n2 A.w A.cw (ix3 b l f) = conv A b l f := by
  pointwise [val_main_v45, val_main_v44, val_main_v43, val_main_v42, val_main_v41, val_main_v40, val_main_v39, val_main_v38,
    val_main_v37, val_main_v36, val_main_v35, val_main_v34, val_main_v33, val_main_v32, val_main_v31, val_main_v30,
    val_main_cst_3, val_main_v29, val_main_v28, val_main_v27, val_main_v26, val_main_v25, val_main_v24, ref_pad, conv]
  rw [show 1 + l.val + 6 = l.val + 7 by omega, show 2 + l.val + 6 = l.val + 8 by omega]

/-- The reference's gated unit. -/
theorem ref_act (b : Fin 8) (l : Fin 8192) (g : Fin 2816) :
    val_main_v49 (F := Ideal) A.x A.md A.n2 A.w A.cw (ix3 b l g) = act A b l g := by
  pointwise [val_main_v49, val_main_v48, val_main_call1_v5, val_main_call1_v4, val_main_call1_cst_0, val_main_call1_v3,
    val_main_call1_v2, val_main_call1_cst, val_main_call1_v1, val_main_call1_v0, val_main_v47, val_main_v46, ref_conv, act, silu, gcol, vcol]

/-- The reference's residual sum. -/
theorem ref_ffn (b : Fin 8) (l : Fin 8192) (d : Fin 1024) :
    val_main_v53 (F := Ideal) A.x A.md A.n2 A.w A.cw A.wd (ix3 b l d) = ffn A b l d := by
  pointwise [val_main_v53, val_main_v52, val_main_v51, val_main_v50, val_main_v2, ref_act, ffn]

end Cert.InnerRefIdeal.Value

end
-- ==== Proof.InnerBody.lean ====
/- One grid point of the inner layers' call. It differs from the last layer's point in what is stored at the end only: the
   residual sum itself, without the last norm. Everything before it is the point of `FfnBody`. -/
module

public import proofs.«01_k».proof.Proof.Gen.InnerIdeal.Value
public import proofs.«01_k».proof.Proof.FfnTile

@[expose] public section

set_option maxRecDepth 16384

noncomputable section

namespace Cert.InnerIdeal.Body

open Cert.InnerIdeal Cert.InnerIdeal.Gen Idealize.ShloMosaic Cert.FfnSpec
open Cert.FfnIdeal.Body (Pt Reads Carries wdN rowOf inb_a aN_spec)

/-- The block of the result: the residual sum. -/
def res (p : Pt) (H : ℕ → Vec Ideal S1x8x512 .f32) : Vec Ideal S1x256x1024 .f32 :=
  k0_pay3 (k0_pay5 p.md) (k0_pay6 p.x) (p.av.readCov (p.total H) (Rect.unit ![0, 0] S256x1024.size inb_a).toLoadRect)

/-- The result's payload. -/
theorem pay3_at (md : Vec Ideal S1x6x1024 .f32) (x : Vec Ideal S1x256x1024 .f32) (a : Vec Ideal S256x1024 .f32) (r : Fin 256) (d : Fin 1024) :
    k0_pay3 (F := Ideal) (k0_pay5 md) (k0_pay6 x) a (ix3 0 r d) = x (ix3 0 r d) + md (ix3 0 5 d) * a (ix2 r d) := by
  pointwise [k0_pay3, k0_pay5, k0_pay6]

variable {A : Args} {b : Fin 8} {t : Fin 32} {p : Pt} {H : ℕ → Vec Ideal S1x8x512 .f32}

/-- On the tile's part of the arguments it is the tile of the residual sum. -/
theorem res_spec (hp : Reads A b t p) (hH : Carries A b (256 * t.val) H) (hA : A.Fin) (r : Fin 256) (d : Fin 1024) :
    res p H (ix3 0 r d) = ffn A b (rowOf t r) d := by
  unfold res
  rw [pay3_at, p.total_at H (wdN A) hp.wd2 hp.wd1, hp.x, hp.md]
  unfold ffn
  congr 2
  refine Finset.sum_congr rfl fun n _ => ?_
  rw [aN_spec hp hH hA]
  unfold wdN
  rw [dif_pos n.isLt]

end Cert.InnerIdeal.Body

end
-- ==== Proof.InnerRunA.lean ====
/- The body's run in case A (the first tile of a sequence: the carried rows are set to zero first) leaves the lists of stores of `FfnBody`,
   and of the result the block of `InnerBody`. -/
module

public import proofs.«01_k».proof.Proof.InnerBody
public import proofs.«01_k».proof.Proof.FfnRect

@[expose] public section

set_option maxRecDepth 16384

noncomputable section

namespace Cert.InnerIdeal.Body

open Cert.InnerIdeal Cert.InnerIdeal.Gen Idealize.ShloMosaic Idealize.ShloMosaic.TcCoe Idealize.SL.Sem
open Cert.FfnIdeal.Body (ptAt carriedA carriedB zeroed inb_y canon_hit3)

variable (c : Dev nD) (i : grid0.Coords) (arg2 : Memref sig .tc .vmem S1x256x1024 .f32) (harg2 : arg2.IsWhole)
    (arg3 : Memref sig .tc .vmem S1x6x1024 .f32) (harg3 : arg3.IsWhole) (arg4 : Memref sig .tc .vmem S1x1024 .f32) (harg4 : arg4.IsWhole)
    (arg5 : Memref sig .tc .vmem S11x1024x512 .bf16) (harg5 : arg5.IsWhole) (arg6 : Memref sig .tc .vmem S11x8x512 .f32)
    (harg6 : arg6.IsWhole) (arg7 : Memref sig .tc .vmem S11x256x1024 .bf16) (harg7 : arg7.IsWhole) (arg8 : Memref sig .tc .vmem S1x1024 .f32)
    (harg8 : arg8.IsWhole) (arg9 : Memref sig .tc .vmem S1x256x1024 .f32) (harg9 : arg9.IsWhole)
    (arg10 : Memref sig .tc .vmem S256x1024 .bf16) (harg10 : arg10.IsWhole) (arg11 : Memref sig .tc .vmem S256x1024 .f32)
    (harg11 : arg11.IsWhole) (arg12 : Memref sig .tc .vmem S11x8x512 .f32) (harg12 : arg12.IsWhole)
    (arg13 : Memref sig .tc .vmem S2x256x512 .f32) (harg13 : arg13.IsWhole) (arg14 : Memref sig .tc .vmem S256x512 .bf16)
    (harg14 : arg14.IsWhole) (hc0 : cond0_0 i) (x0 : Vec Ideal S1x256x1024 .f32) (x1 : Vec Ideal S1x6x1024 .f32)
    (x2 : Vec Ideal S1x1024 .f32) (x3 : Vec Ideal S11x1024x512 .bf16) (x4 : Vec Ideal S11x8x512 .f32) (x5 : Vec Ideal S11x256x1024 .bf16)
    (x6 : Vec Ideal S1x1024 .f32)

/-- The result's block. -/
theorem runA_out :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).1
      = [⟨Rect.unit ![0, 0, 0] S1x256x1024.size inb_y, res (ptAt c arg2 harg2 arg3 harg3 arg4 harg4 arg5 harg5 arg6 harg6 arg7 harg7 arg8 harg8 arg10 arg11 arg13 arg14 x0 x1 x2 x3 x4 x5 x6) (carriedA (ptAt c arg2 harg2 arg3 harg3 arg4 harg4 arg5 harg5 arg6 harg6 arg7 harg7 arg8 harg8 arg10 arg11 arg13 arg14 x0 x1 x2 x3 x4 x5 x6) arg12.view)⟩] := by sl_kernel_rfl

/-- The rows carried to the next tile. -/
theorem runA_halo :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.1
      = (ptAt c arg2 harg2 arg3 harg3 arg4 harg4 arg5 harg5 arg6 harg6 arg7 harg7 arg8 harg8 arg10 arg11 arg13 arg14 x0 x1 x2 x3 x4 x5 x6).halos zeroed 11 := by sl_kernel_rfl

/-- What the point leaves of the result, at an index. -/
theorem outA_at (r : Fin 256) (d : Fin 1024) :
    out0_A_7 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 (ix3 0 r d)
      = res (ptAt c arg2 harg2 arg3 harg3 arg4 harg4 arg5 harg5 arg6 harg6 arg7 harg7 arg8 harg8 arg10 arg11 arg13 arg14 x0 x1 x2 x3 x4 x5 x6) (carriedA (ptAt c arg2 harg2 arg3 harg3 arg4 harg4 arg5 harg5 arg6 harg6 arg7 harg7 arg8 harg8 arg10 arg11 arg13 arg14 x0 x1 x2 x3 x4 x5 x6) arg12.view) (ix3 0 r d) :=
  (congrFun ((View.read_writes_junk_eq_canon VO0_7 _).trans (congrArg View.canon (runA_out c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6))) _).trans
    (canon_hit3 (A := 1) (B := 256) (C := 1024) (a := 1) (b := 256) (c := 1024) 0 0 0 inb_y _ [] 0 r d 0 r d rfl (Nat.zero_add _).symm (Nat.zero_add _).symm)

/-- What the point leaves for the next tile. -/
theorem haloA_eq :
    sout0_A_2 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6
      = View.canon ((ptAt c arg2 harg2 arg3 harg3 arg4 harg4 arg5 harg5 arg6 harg6 arg7 harg7 arg8 harg8 arg10 arg11 arg13 arg14 x0 x1 x2 x3 x4 x5 x6).halos zeroed 11) :=
  (View.read_writes_junk_eq_canon VS0_2 _).trans (congrArg View.canon (runA_halo c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6))

end Cert.InnerIdeal.Body

end
-- ==== Proof.InnerRunB.lean ====
/- The body's run in case B (a later tile: the carried rows are the previous tile's) leaves the lists of stores of `FfnBody`,
   and of the result the block of `InnerBody`. -/
module

public import proofs.«01_k».proof.Proof.InnerBody
public import proofs.«01_k».proof.Proof.FfnRect

@[expose] public section

set_option maxRecDepth 16384

noncomputable section

namespace Cert.InnerIdeal.Body

open Cert.InnerIdeal Cert.InnerIdeal.Gen Idealize.ShloMosaic Idealize.ShloMosaic.TcCoe Idealize.SL.Sem
open Cert.FfnIdeal.Body (ptAt carriedA carriedB zeroed inb_y canon_hit3)

variable (c : Dev nD) (i : grid0.Coords) (arg2 : Memref sig .tc .vmem S1x256x1024 .f32) (harg2 : arg2.IsWhole)
    (arg3 : Memref sig .tc .vmem S1x6x1024 .f32) (harg3 : arg3.IsWhole) (arg4 : Memref sig .tc .vmem S1x1024 .f32) (harg4 : arg4.IsWhole)
    (arg5 : Memref sig .tc .vmem S11x1024x512 .bf16) (harg5 : arg5.IsWhole) (arg6 : Memref sig .tc .vmem S11x8x512 .f32)
    (harg6 : arg6.IsWhole) (arg7 : Memref sig .tc .vmem S11x256x1024 .bf16) (harg7 : arg7.IsWhole) (arg8 : Memref sig .tc .vmem S1x1024 .f32)
    (harg8 : arg8.IsWhole) (arg9 : Memref sig .tc .vmem S1x256x1024 .f32) (harg9 : arg9.IsWhole)
    (arg10 : Memref sig .tc .vmem S256x1024 .bf16) (harg10 : arg10.IsWhole) (arg11 : Memref sig .tc .vmem S256x1024 .f32)
    (harg11 : arg11.IsWhole) (arg12 : Memref sig .tc .vmem S11x8x512 .f32) (harg12 : arg12.IsWhole)
    (arg13 : Memref sig .tc .vmem S2x256x512 .f32) (harg13 : arg13.IsWhole) (arg14 : Memref sig .tc .vmem S256x512 .bf16)
    (harg14 : arg14.IsWhole) (hc0 : ¬cond0_0 i) (x0 : Vec Ideal S1x256x1024 .f32) (x1 : Vec Ideal S1x6x1024 .f32)
    (x2 : Vec Ideal S1x1024 .f32) (x3 : Vec Ideal S11x1024x512 .bf16) (x4 : Vec Ideal S11x8x512 .f32) (x5 : Vec Ideal S11x256x1024 .bf16)
    (x6 : Vec Ideal S1x1024 .f32) (xs2 : Vec Ideal S11x8x512 .f32)

/-- The result's block. -/
theorem runB_out :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs2).1
      = [⟨Rect.unit ![0, 0, 0] S1x256x1024.size inb_y, res (ptAt c arg2 harg2 arg3 harg3 arg4 harg4 arg5 harg5 arg6 harg6 arg7 harg7 arg8 harg8 arg10 arg11 arg13 arg14 x0 x1 x2 x3 x4 x5 x6) (carriedB arg12 harg12 xs2)⟩] := by sl_kernel_rfl

/-- The rows carried to the next tile. -/
theorem runB_halo :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs2).2.1
      = (ptAt c arg2 harg2 arg3 harg3 arg4 harg4 arg5 harg5 arg6 harg6 arg7 harg7 arg8 harg8 arg10 arg11 arg13 arg14 x0 x1 x2 x3 x4 x5 x6).halos [] 11 := by sl_kernel_rfl

/-- What the point leaves of the result, at an index. -/
theorem outB_at (r : Fin 256) (d : Fin 1024) :
    out0_B_7 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs2 (ix3 0 r d)
      = res (ptAt c arg2 harg2 arg3 harg3 arg4 harg4 arg5 harg5 arg6 harg6 arg7 harg7 arg8 harg8 arg10 arg11 arg13 arg14 x0 x1 x2 x3 x4 x5 x6) (carriedB arg12 harg12 xs2) (ix3 0 r d) :=
  (congrFun ((View.read_writes_junk_eq_canon VO0_7 _).trans (congrArg View.canon (runB_out c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs2))) _).trans
    (canon_hit3 (A := 1) (B := 256) (C := 1024) (a := 1) (b := 256) (c := 1024) 0 0 0 inb_y _ [] 0 r d 0 r d rfl (Nat.zero_add _).symm (Nat.zero_add _).symm)

/-- What the point leaves for the next tile. -/
theorem haloB_eq :
    sout0_B_2 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs2
      = View.canon ((ptAt c arg2 harg2 arg3 harg3 arg4 harg4 arg5 harg5 arg6 harg6 arg7 harg7 arg8 harg8 arg10 arg11 arg13 arg14 x0 x1 x2 x3 x4 x5 x6).halos [] 11) :=
  (View.read_writes_junk_eq_canon VS0_2 _).trans (congrArg View.canon (runB_halo c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs2))

end Cert.InnerIdeal.Body

end
-- ==== Proof.InnerKernelValue.lean ====
/- The inner layers' call's result: by induction over the grid points each tile is written with its part of the result and hands on the rows
   the next one convolves with. -/
module

public import proofs.«01_k».proof.Proof.FfnKernelValue
public import proofs.«01_k».proof.Proof.InnerRunA
public import proofs.«01_k».proof.Proof.InnerRunB

@[expose] public section

set_option maxRecDepth 16384

noncomputable section

namespace Cert.InnerIdeal.Body

open Cert.InnerIdeal Cert.InnerIdeal.Gen Idealize.ShloMosaic Idealize.ShloMosaic.TcCoe Cert.FfnSpec
open Cert.FfnIdeal.Body (pt pt_reads args seqOf tileOf rowOf col zeroed carriedA carriedB carriedA_spec halos_spec inb_h readAt_ix3 ix3_congr)

variable (m : (ℓ : Loc nD τ sig) → Buf (Elt Ideal) ℓ) (c : Dev nD)

/-- What a point writes on a sequence's first tile. -/
theorem out_A (t : Fin cfg0.N) (h : t.val % 32 = 0) (r : Fin 256) (d : Fin 1024) :
    (outsAt0 m c t.val t.isLt).1 (ix3 0 r d) = res (pt m c t) (carriedA (pt m c t) scM0_2.view) (ix3 0 r d) := by
  rw [outsAt0_A m c t h]
  dsimp only
  rw [outA_at]
  rfl

/-- What it writes on a later tile. -/
theorem out_B (t : Fin cfg0.N) (h : ¬ t.val % 32 = 0) (r : Fin 256) (d : Fin 1024) :
    (outsAt0 m c t.val t.isLt).1 (ix3 0 r d)
      = res (pt m c t) (carriedB scM0_2 (Memref.isWhole_whole _) (outsAt0 m c (t.val - 1) (Nat.lt_of_le_of_lt (Nat.sub_le _ _) t.isLt)).2) (ix3 0 r d) := by
  rw [outsAt0_B m c t h]
  dsimp only
  rw [outB_at]
  rfl

/-- What a point hands on: the last eight rows of its up projection, block by block. -/
theorem halo_at (t : Fin cfg0.N) : ∃ L, (outsAt0 m c t.val t.isLt).2 = View.canon ((pt m c t).halos L 11) := by
  by_cases h : t.val % 32 = 0
  · refine ⟨zeroed, ?_⟩
    rw [outsAt0_A m c t h]
    dsimp only
    rw [haloA_eq]
    rfl
  · refine ⟨[], ?_⟩
    rw [outsAt0_B m c t h]
    dsimp only
    rw [haloB_eq]
    rfl

/-- … which are the eight rows before the next tile. -/
theorem halo_spec (t : Fin cfg0.N) (j : Fin 11) (q : Fin 8) (k : Fin 512) :
    (outsAt0 m c t.val t.isLt).2 (ix3 j q k) = upPad (args m c) (seqOf t) (256 * (t.val % 32 + 1) + q.val) (col j.val k) := by
  obtain ⟨L, hL⟩ := halo_at m c t
  rw [hL]
  exact halos_spec (pt_reads m c t) L j q k

/-- Each point writes its tile of the result. -/
theorem out_spec (hA : (args m c).Fin) (t : Fin cfg0.N) (r : Fin 256) (d : Fin 1024) :
    (outsAt0 m c t.val t.isLt).1 (ix3 0 r d) = ffn (args m c) (seqOf t) (rowOf (tileOf t) r) d := by
  by_cases h : t.val % 32 = 0
  · rw [out_A m c t h]
    refine res_spec (pt_reads m c t) ?_ hA r d
    have e : 256 * (tileOf t).val = 0 := by show 256 * (t.val % 32) = 0; omega
    rw [e]
    exact carriedA_spec (pt_reads m c t) _
  · rw [out_B m c t h]
    refine res_spec (pt_reads m c t) ?_ hA r d
    intro j hj q k
    have ht : t.val - 1 < cfg0.N := Nat.lt_of_le_of_lt (Nat.sub_le _ _) t.isLt
    refine (readAt_ix3 (A := 11) (B := 8) (C := 512) (a := 1) (b := 8) (c := 512) scM0_2 (Memref.isWhole_whole _) _ (j % 11) 0 0 (inb_h j) 0 q k).trans ?_
    refine Eq.trans ?_ ((halo_spec m c ⟨t.val - 1, ht⟩ ⟨j, hj⟩ q k).trans ?_)
    · exact ix3_congr _ (show j % 11 + 0 = j by omega) (Nat.zero_add _) (Nat.zero_add _)
    · have e1 : seqOf ⟨t.val - 1, ht⟩ = seqOf t := by
        apply Fin.ext; show (t.val - 1) / 32 = t.val / 32; omega
      rw [e1]
      congr 1
      show 256 * ((t.val - 1) % 32 + 1) + q.val = 256 * (t.val % 32) + q.val
      omega

/-- The array the call leaves is the residual sum of the arguments. -/
theorem G7_eq (hA : (args m c).Fin) (b : Fin 8) (l : Fin 8192) (d : Fin 1024) :
    Cert.InnerIdeal.Value.G7 m c (ix3 b l d) = ffn (args m c) b l d := by
  have hN : cfg0.N = 256 := N_0
  have hp : Cert.InnerIdeal.Value.pt7Of (ix3 b l d) = 32 * b.val + l.val / 256 := by
    show 32 * (b.val / 1 - 0) + 1 * (l.val / 256 - 0) + 1 * (d.val / 1024 - 0) = _
    omega
  have hlt : Cert.InnerIdeal.Value.pt7Of (ix3 b l d) < cfg0.N := by rw [hp, hN]; omega
  unfold Cert.InnerIdeal.Value.G7
  rw [dif_pos hlt, ← Cert.InnerIdeal.Value.outsAt0_sweep m c _ hlt]
  have el : Cert.InnerIdeal.Value.loc7Of (ix3 b l d) = (ix3 0 ⟨l.val % 256, by omega⟩ d : S1x256x1024.Idx) := by
    funext a; apply Fin.ext
    match a with
    | ⟨0, _⟩ => show b.val % 1 = 0; omega
    | ⟨1, _⟩ => rfl
    | ⟨2, _⟩ => show d.val % 1024 = d.val; omega
  rw [el]
  refine (out_spec m c hA ⟨_, hlt⟩ ⟨l.val % 256, by omega⟩ d).trans ?_
  congr 1
  · apply Fin.ext
    show Cert.InnerIdeal.Value.pt7Of (ix3 b l d) / 32 = b.val
    rw [hp]; omega
  · apply Fin.ext
    show 256 * (Cert.InnerIdeal.Value.pt7Of (ix3 b l d) % 32) + l.val % 256 = l.val
    rw [hp]; omega

end Cert.InnerIdeal.Body

end
-- ==== Proof.ModSpec.lean ====
/- The modulation rows: a linear map of silu of the conditioning vector, layer by layer. -/
module

public import proofs.«01_k».proof.Proof.FfnReal

@[expose] public section

noncomputable section

namespace Cert.ModSpec

open Idealize.ShloMosaic Cert.FfnSpec

/-- Entry `n` of layer `i`'s rows for batch entry `b`. -/
def row (x : Vec Ideal ⟨2, ![8, 1024]⟩ .f32) (w : Vec Ideal ⟨3, ![4, 1024, 6144]⟩ .f32) (v : Vec Ideal ⟨2, ![4, 6144]⟩ .f32)
    (i : Fin 4) (b : Fin 8) (n : Fin 6144) : EReal :=
  (∑ k : Fin 1024, silu (x (ix2 b k)) * w (ix3 i k n)) + v (ix2 i n)

/-- A real minus itself is nothing. -/
theorem sub_self_of_re {a : EReal} (h : Re a) : a - a = 0 := by
  obtain ⟨r, rfl⟩ := h
  rw [← EReal.coe_sub, sub_self, EReal.coe_zero]

/-- silu of a real is a real. -/
theorem Re.silu {y : EReal} (h : Re y) : Re (silu y) := by
  obtain ⟨r, rfl⟩ := h
  have hne : (1 + Real.exp (-r) : ℝ) ≠ 0 := by positivity
  refine ⟨r * (1 / (1 + Real.exp (-r))), ?_⟩
  unfold FfnSpec.silu
  rw [← EReal.coe_neg, Ideal.exp_coe, ← EReal.coe_one, ← EReal.coe_add, Ideal.div_coe hne, ← EReal.coe_mul, one_mul, ← EReal.coe_mul]

end Cert.ModSpec

end
-- ==== Proof.ModRefValue.lean ====
/- The reference's modulation rows, entry by entry. -/
module

public import proofs.«01_k».proof.Proof.Gen.ModRefIdeal.Read
public import proofs.«01_k».proof.Proof.ModSpec

@[expose] public section

set_option maxRecDepth 16384

noncomputable section

namespace Cert.ModRefIdeal.Value

open Idealize.ShloMosaic Cert.ModRefIdeal.Read Cert.FfnSpec Cert.ModSpec

variable [Facts] (x : Vec Ideal ⟨2, ![8, 1024]⟩ .f32) (w : Vec Ideal ⟨3, ![4, 1024, 6144]⟩ .f32) (v : Vec Ideal ⟨2, ![4, 6144]⟩ .f32)

/-- The reference's result. -/
theorem ref_row (i : Fin 4) (b : Fin 8) (n : Fin 6144) : val_main_v5 (F := Ideal) x w v (ix3 i b n) = row x w v i b n := by
  pointwise [val_main_v5, val_main_v4, val_main_v3, val_main_v2, val_main_v1, val_main_v0, val_main_call0_v5, val_main_call0_v4,
    val_main_call0_v3, val_main_call0_v2, val_main_call0_v1, val_main_call0_v0, val_main_call0_cst, val_main_call0_cst_0, row, silu]
  congr 1
  exact Finset.sum_congr rfl fun k _ => mul_comm _ _

end Cert.ModRefIdeal.Value

end
-- ==== Proof.ModKernelValue.lean ====
/- The modulation call: each grid point writes its block of the rows. -/
module

public import proofs.«01_k».proof.Proof.Gen.ModIdeal.Value
public import proofs.«01_k».proof.Proof.ModSpec
public import proofs.«01_k».proof.Proof.FfnRect
public import Idealize.ShloMosaic.Lib.Tactic

@[expose] public section

set_option maxRecDepth 16384

noncomputable section

namespace Cert.ModIdeal.Body

open Cert.ModIdeal Cert.ModIdeal.Gen Cert.ModIdeal.Facts Idealize.ShloMosaic Idealize.ShloMosaic.TcCoe Cert.FfnSpec Cert.ModSpec
open Cert.FfnIdeal.Body (emb_ix2 emb_ix3 canon_hit3)

/-- What a point stores, at an index: at reals the tails `s - s` and `w - w` of the split product add nothing. -/
theorem pay_at (x : Vec Ideal S8x1024 .f32) (w : Vec Ideal S1x1024x1024 .f32) (v : Vec Ideal S1x1x1024 .f32)
    (hx : ∀ i, Re (x i)) (hw : ∀ i, Re (w i)) (b : Fin 8) (q : Fin 1024) :
    k0_pay1 (F := Ideal) x w v (ix3 0 b q) = (∑ k : Fin 1024, silu (x (ix2 b k)) * w (ix3 0 k q)) + v (ix3 0 0 q) := by
  pointwise [k0_pay1]
  have h1 : ∀ k : Fin 1024, gate (x (ix2 b k)) = silu (x (ix2 b k)) := fun k => gate_eq (hx _)
  have h2 : ∀ k : Fin 1024, silu (x (ix2 b k)) - silu (x (ix2 b k)) = 0 := fun k => sub_self_of_re (Re.silu (hx _))
  have h3 : ∀ k : Fin 1024, w (ix3 0 k q) - w (ix3 0 k q) = 0 := fun k => sub_self_of_re (hw _)
  unfold gate at h1
  simp only [h1, h2, h3, mul_zero, zero_mul, Finset.sum_const_zero, add_zero]

/-- The biases with a middle axis put in, at an index. -/
theorem bias_at (v : Vec Ideal S4x6144 .f32) (i : Fin 4) (n : Fin 6144) :
    shapeCast S4x1x6144 v shapeCasts_S4x6144_S4x1x6144 (ix3 i 0 n) = v (ix2 i n) := by
  pointwise []

/-- The moving blocks, by the point. -/
theorem idx_moving : ∀ t : Fin cfg0.N, win0_1.index t = ![t.val / 6, 0, t.val % 6] ∧ win0_2.index t = ![t.val / 6, 0, t.val % 6]
    ∧ win0_3.index t = ![t.val / 6, 0, t.val % 6] ∧ (cfg0.win 3).flush t = true :=
  (by decide +kernel : ∀ t : Fin grid0.N, _)

variable (m : (ℓ : Loc nD τ sig) → Buf (Elt Ideal) ℓ) (c : Dev nD) (t : Fin cfg0.N)

theorem lt24 : t.val < 24 := lt_of_lt_of_eq t.isLt N_0

/-- The point's layer. -/
def layerOf : Fin 4 := ⟨t.val / 6, by have := lt24 t; omega⟩

/-- A column of the point's block, in the rows. -/
def colOf (q : Fin 1024) : Fin 6144 := ⟨1024 * (t.val % 6) + q.val, by omega⟩

/-- The conditioning vectors' block is the whole array. -/
theorem iblk0_at (b : Fin 8) (k : Fin 1024) : iblk m c 0 t (ix2 b k) = m ((c : Thread nD τ).loc main_arg0) (ix2 b k) := by
  show V m c main_arg0 (((cfg0.win 0).blk t).view.emb (ix2 b k)) = _
  rw [V_main_arg0]
  refine congrArg (m ((c : Thread nD τ).loc main_arg0)) ?_
  funext a
  apply Fin.ext
  match a with
  | ⟨0, _⟩ => show 0 * 8 + 1 * b.val = b.val; omega
  | ⟨1, _⟩ => show 0 * 1024 + 1 * k.val = k.val; omega

/-- The weights' block. -/
theorem iblk1_at (k q : Fin 1024) : iblk m c 1 t (ix3 0 k q) = m ((c : Thread nD τ).loc main_arg1) (ix3 (layerOf t) k (colOf t q)) := by
  obtain ⟨e, -⟩ := idx_moving t
  have e0 : win0_1.index t 0 = t.val / 6 := congrFun e 0
  have e1 : win0_1.index t 1 = 0 := congrFun e 1
  have e2 : win0_1.index t 2 = t.val % 6 := congrFun e 2
  show V m c main_arg1 (((cfg0.win 1).blk t).view.emb (ix3 0 k q)) = _
  rw [V_main_arg1]
  refine congrArg (m ((c : Thread nD τ).loc main_arg1)) ?_
  funext a
  apply Fin.ext
  match a with
  | ⟨0, _⟩ => show win0_1.index t 0 * 1 + 1 * 0 = t.val / 6; omega
  | ⟨1, _⟩ => show win0_1.index t 1 * 1024 + 1 * k.val = k.val; omega
  | ⟨2, _⟩ => show win0_1.index t 2 * 1024 + 1 * q.val = 1024 * (t.val % 6) + q.val; omega

/-- The biases as the region finds them: a middle axis of size one is put in. -/
theorem V_bias : V m c main_v0 = shapeCast S4x1x6144 (m ((c : Thread nD τ).loc main_arg2)) shapeCasts_S4x6144_S4x1x6144 := by
  sl_kernel_rfl

/-- The biases' block. -/
theorem iblk2_at (q : Fin 1024) : iblk m c 2 t (ix3 0 0 q) = m ((c : Thread nD τ).loc main_arg2) (ix2 (layerOf t) (colOf t q)) := by
  obtain ⟨-, e, -⟩ := idx_moving t
  have e0 : win0_2.index t 0 = t.val / 6 := congrFun e 0
  have e1 : win0_2.index t 1 = 0 := congrFun e 1
  have e2 : win0_2.index t 2 = t.val % 6 := congrFun e 2
  show V m c main_v0 (((cfg0.win 2).blk t).view.emb (ix3 0 0 q)) = _
  have ei : ((cfg0.win 2).blk t).view.emb (ix3 0 0 q) = (ix3 (layerOf t) 0 (colOf t q) : S4x1x6144.Idx) := by
    funext a
    apply Fin.ext
    match a with
    | ⟨0, _⟩ => show win0_2.index t 0 * 1 + 1 * 0 = t.val / 6; omega
    | ⟨1, _⟩ => show win0_2.index t 1 * 1 + 1 * 0 = 0; omega
    | ⟨2, _⟩ => show win0_2.index t 2 * 1024 + 1 * q.val = 1024 * (t.val % 6) + q.val; omega
  rw [ei, V_bias]
  generalize m ((c : Thread nD τ).loc main_arg2) = v
  revert v
  generalize layerOf t = i
  generalize colOf t q = n
  intro v
  exact bias_at v i n

/-- A load of a whole two-axis block reads the block. -/
theorem ld2 (x : Vec Ideal S8x1024 .f32) : View.ld x r0_0 = x := by
  funext i
  rw [eq_ix2 i]
  exact (congrArg x (emb_ix2 0 0 _ (i 0) (i 1))).trans (congrArg x (by congr 1 <;> exact Fin.ext (Nat.zero_add _)))

/-- A load of a whole three-axis block likewise. -/
theorem ld3 {A B C : ℕ} (x : Vec Ideal ⟨3, ![A, B, C]⟩ .f32) (inb) :
    View.ld x (Rect.unit (s := ⟨3, ![A, B, C]⟩) ![0, 0, 0] ![A, B, C] inb) = x := by
  funext i
  rw [eq_ix3 i]
  exact (congrArg x (emb_ix3 0 0 0 inb (i 0) (i 1) (i 2))).trans (congrArg x (by congr 1 <;> exact Fin.ext (Nat.zero_add _)))

/-- What a point leaves in its output block. -/
theorem out_at (x : Vec Ideal S8x1024 .f32) (w : Vec Ideal S1x1024x1024 .f32) (v : Vec Ideal S1x1x1024 .f32)
    (hx : ∀ i, Re (x i)) (hw : ∀ i, Re (w i)) (b : Fin 8) (q : Fin 1024) :
    out0_3 (F := Ideal) x w v (ix3 0 b q) = (∑ k : Fin 1024, silu (x (ix2 b k)) * w (ix3 0 k q)) + v (ix3 0 0 q) := by
  have e1 : View.ld w r0_1 = w := ld3 w _
  have e2 : View.ld v r0_2 = v := ld3 v _
  unfold out0_3
  rw [ld2, e1, e2]
  refine Eq.trans ?_ (pay_at x w v hx hw b q)
  exact canon_hit3 0 0 0 _ _ [] 0 b q 0 b q rfl (Nat.zero_add _).symm (Nat.zero_add _).symm

/-- The array the call leaves holds the modulation rows. -/
theorem final_at (hx : ∀ i, Re (m ((c : Thread nD τ).loc main_arg0) i)) (hw : ∀ i, Re (m ((c : Thread nD τ).loc main_arg1) i))
    (i : Fin 4) (b : Fin 8) (n : Fin 6144) :
    (dats m 0 c).arrAt 3 cfg0.N (ix3 i b n)
      = row (m ((c : Thread nD τ).loc main_arg0)) (m ((c : Thread nD τ).loc main_arg1)) (m ((c : Thread nD τ).loc main_arg2)) i b n := by
  have hN : cfg0.N = 24 := N_0
  have ht : 6 * i.val + n.val / 1024 < cfg0.N := by rw [hN]; omega
  obtain ⟨t, et⟩ : ∃ t : Fin cfg0.N, t.val = 6 * i.val + n.val / 1024 := ⟨⟨_, ht⟩, rfl⟩
  obtain ⟨q, eq⟩ : ∃ q : Fin 1024, q.val = n.val % 1024 := ⟨⟨n.val % 1024, by omega⟩, rfl⟩
  have el : layerOf t = i := by apply Fin.ext; show t.val / 6 = i.val; omega
  have ec : colOf t q = n := by apply Fin.ext; show 1024 * (t.val % 6) + q.val = n.val; omega
  obtain ⟨-, -, e, hf⟩ := idx_moving t
  have e0 : win0_3.index t 0 = t.val / 6 := congrFun e 0
  have e1 : win0_3.index t 1 = 0 := congrFun e 1
  have e2 : win0_3.index t 2 = t.val % 6 := congrFun e 2
  have ei : ((cfg0.win 3).blk t).view.emb (ix3 0 b q) = (ix3 i b n : S4x8x6144.Idx) := by
    rw [← el, ← ec]
    funext a
    apply Fin.ext
    match a with
    | ⟨0, _⟩ => show win0_3.index t 0 * 1 + 1 * 0 = t.val / 6; omega
    | ⟨1, _⟩ => show win0_3.index t 1 * 8 + 1 * b.val = b.val; omega
    | ⟨2, _⟩ => show win0_3.index t 2 * 1024 + 1 * q.val = 1024 * (t.val % 6) + q.val; omega
  have hb := congrFun ((Cert.ModIdeal.Value.blocks3 m c t hf).trans (Cert.ModIdeal.Value.flushed3 m c t)) (ix3 0 b q)
  have hl : (dats m 0 c).arrAt 3 cfg0.N (ix3 i b n) = out0_3 (F := Ideal) (iblk m c 0 t) (iblk m c 1 t) (iblk m c 2 t) (ix3 0 b q) :=
    (congrArg ((dats m 0 c).arrAt 3 cfg0.N) ei.symm).trans hb
  rw [hl]
  have hx' : ∀ i : S8x1024.Idx, Re (iblk m c 0 t i) := fun i => by
    rw [eq_ix2 i]; exact (iblk0_at m c t (i 0) (i 1)) ▸ hx _
  have hw' : ∀ i : S1x1024x1024.Idx, Re (iblk m c 1 t i) := fun i => by
    have h0 : i 0 = (0 : Fin 1) := Subsingleton.elim (α := Fin 1) _ _
    rw [eq_ix3 i, h0]; exact (iblk1_at m c t (i 1) (i 2)) ▸ hw _
  refine (out_at _ _ _ hx' hw' b q).trans ?_
  unfold row
  rw [← el, ← ec]
  refine congrArg₂ (· + ·) (Finset.sum_congr rfl fun k _ => ?_) (iblk2_at m c t q)
  exact congrArg₂ (fun y z => silu y * z) (iblk0_at m c t b k) (iblk1_at m c t k q)

end Cert.ModIdeal.Body

end
-- ==== Proof.ModFinite.lean ====
/- The modulation call's precondition: an absolute value below infinity is a real number. -/
module

public import proofs.«01_k».proof.Defs
public import proofs.«01_k».proof.Proof.FfnFinite

@[expose] public section

noncomputable section

namespace Cert.ModIdeal.Body

open Idealize.ShloMosaic Cert.FfnSpec Cert.ModIdeal

/-- The conditioning vectors and the weights are real numbers. -/
theorem args_fin [Cert.Pre_mod_finite.Facts] {m : (ℓ : Loc nD τ sig) → Buf (Elt Ideal) ℓ} (h : Cert.Pre_ModIdeal_mod_finite m) (c : Dev nD) :
    (∀ i, Re (m ((c.tc : Thread nD τ).loc main_arg0) i)) ∧ ∀ i, Re (m ((c.tc : Thread nD τ).loc main_arg1) i) := by
  obtain ⟨h0, h1⟩ := h c
  exact ⟨fun i => Cert.FfnIdeal.Body.re_of_lt (congrFun h0 i), fun i => Cert.FfnIdeal.Body.re_of_lt (congrFun h1 i)⟩

end Cert.ModIdeal.Body

end
-- ==== Proof.lean ====
module

public import proofs.«01_k».proof.Defs
public import proofs.«01_k».proof.Proof.Gen.Mix.Frame.Runs
public import proofs.«01_k».proof.Proof.Gen.MixIdeal.Frame.Runs
public import proofs.«01_k».proof.Proof.MixFrame
public import proofs.«01_k».proof.Proof.MixIdealHolds
public import proofs.«01_k».proof.Proof.Gen.Post_unchanged_where_shut
public import proofs.«01_k».proof.Proof.Gen.Ffn.Frame
public import proofs.«01_k».proof.Proof.Gen.FfnIdeal.Value
public import proofs.«01_k».proof.Proof.Gen.FfnRefIdeal.Run
public import proofs.«01_k».proof.Proof.Gen.Pre_ffn_finite
public import proofs.«01_k».proof.Proof.Gen.Mod.Frame
public import proofs.«01_k».proof.Proof.Gen.ModIdeal.Value
public import proofs.«01_k».proof.Proof.Gen.ModRefIdeal.Run
public import proofs.«01_k».proof.Proof.Gen.ModRefIdeal.Read
public import proofs.«01_k».proof.Proof.Gen.Pre_mod_finite
public import proofs.«01_k».proof.Proof.Gen.Inner.Frame
public import proofs.«01_k».proof.Proof.Gen.InnerIdeal.Value
public import proofs.«01_k».proof.Proof.Gen.InnerRefIdeal.Run
public import proofs.«01_k».proof.Proof.Gen.InnerRefIdeal.Read
public import proofs.«01_k».proof.Proof.FfnRefValue
public import proofs.«01_k».proof.Proof.FfnKernelValue
public import proofs.«01_k».proof.Proof.FfnFinite
public import proofs.«01_k».proof.Proof.InnerRefValue
public import proofs.«01_k».proof.Proof.InnerKernelValue
public import proofs.«01_k».proof.Proof.ModRefValue
public import proofs.«01_k».proof.Proof.ModKernelValue
public import proofs.«01_k».proof.Proof.ModFinite
public import Idealize.ShloMosaic.Adequacy
public import Idealize.ShloMosaic.Init
public import Idealize.ShloMosaic.Lib.Quiescent

@[expose] public section

noncomputable section

namespace Cert.Proof

open Idealize.ShloMosaic Idealize.SL.Sem Cert.FfnSpec

/-- The reference's run weakened to its frame; it declares no semaphore, so its counters end at zero. -/
theorem frame_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- Both arrays are the same function of the arguments. -/
theorem value_Ffn : algebraic_FfnIdeal_FfnRefIdeal_pre_ffn_finite := by
  intro m ρ m' ρ' hpre hagree
  refine ⟨_, Cert.FfnIdeal.Value.run (F := Ideal) m ρ, ?_⟩
  refine (θ_run Cert.FfnRefIdeal.defs _ _).mono (fun _ h c => ⟨?_, (h c).2⟩) (Cert.FfnRefIdeal.Value.run (F := Ideal) m' ρ')
  rw [(h c).1]
  refine (Cert.FfnRefIdeal.Read.val_main_v66_eq m' c).trans ?_
  obtain ⟨h0, h1, h2, h3, h4, h5, h6⟩ := hagree c
  rw [h0, h1, h2, h3, h4, h5, h6]
  funext i
  rw [eq_ix3 i]
  exact (Cert.FfnRefIdeal.Value.ref_out (Cert.FfnIdeal.Body.args m c) (i 0) (i 1) (i 2)).trans
    (Cert.FfnIdeal.Body.G7_eq m c (Cert.FfnIdeal.Body.args_fin hpre c) (i 0) (i 1) (i 2)).symm

/-- The second reference's run weakened likewise. -/
theorem frame_ModRefIdeal : quiescent_ModRefIdeal := fun m ρ _ =>
  (θ_run Cert.ModRefIdeal.defs _ _).mono (fun r h => ⟨fun c => (h c).2, sem_eq_zero_of_no_sems (by decide) r.2⟩)
    (Cert.ModRefIdeal.Value.run (F := Ideal) m ρ)

/-- Both leave the modulation rows of the arguments. -/
theorem value_Mod : algebraic_ModIdeal_ModRefIdeal_pre_mod_finite := by
  intro m ρ m' ρ' hpre hagree
  refine ⟨_, Cert.ModIdeal.Value.run_blocks (F := Ideal) m ρ, ?_⟩
  refine (θ_run Cert.ModRefIdeal.defs _ _).mono (fun _ h c => ⟨?_, (h c).2⟩) (Cert.ModRefIdeal.Value.run (F := Ideal) m' ρ')
  rw [(h c).1]
  obtain ⟨h0, h1, h2⟩ := hagree c
  rw [h0, h1, h2]
  obtain ⟨hx, hw⟩ := Cert.ModIdeal.Body.args_fin hpre c
  refine (Cert.ModRefIdeal.Read.val_main_v5_eq _ _ _).trans ?_
  funext i
  rw [eq_ix3 i]
  exact (Cert.ModRefIdeal.Value.ref_row _ _ _ (i 0) (i 1) (i 2)).trans (Cert.ModIdeal.Body.final_at m c hx hw (i 0) (i 1) (i 2)).symm

/-- The inner layers' reference's run weakened likewise. -/
theorem frame_InnerRefIdeal : quiescent_InnerRefIdeal := fun m ρ _ =>
  (θ_run Cert.InnerRefIdeal.defs _ _).mono (fun r h => ⟨fun c => (h c).2, sem_eq_zero_of_no_sems (by decide) r.2⟩)
    (Cert.InnerRefIdeal.Value.run (F := Ideal) m ρ)

/-- Both leave the residual sum of the arguments. -/
theorem value_Inner : algebraic_InnerIdeal_InnerRefIdeal_pre_ffn_finite := by
  intro m ρ m' ρ' hpre hagree
  refine ⟨_, Cert.InnerIdeal.Value.run (F := Ideal) m ρ, ?_⟩
  refine (θ_run Cert.InnerRefIdeal.defs _ _).mono (fun _ h c => ⟨?_, (h c).2⟩) (Cert.InnerRefIdeal.Value.run (F := Ideal) m' ρ')
  rw [(h c).1]
  refine (Cert.InnerRefIdeal.Read.val_main_v53_eq m' c).trans ?_
  obtain ⟨h0, h1, h2, h3, h4, h5, h6⟩ := hagree c
  rw [h0, h1, h2, h3, h4, h5]
  funext i
  rw [eq_ix3 i]
  exact (Cert.InnerRefIdeal.Value.ref_ffn (Cert.FfnIdeal.Body.args m c) (i 0) (i 1) (i 2)).trans
    (Cert.InnerIdeal.Body.G7_eq m c (Cert.FfnIdeal.Body.args_fin hpre c) (i 0) (i 1) (i 2)).symm

/-- The token mixing call leaves the hidden state as it was wherever its gate is zero, and the arguments as they were. -/
theorem shut_Mix [Cert.Post_unchanged_where_shut.Facts] : holds_MixIdeal_unchanged_where_shut := fun m ρ _ =>
  (θ_run Cert.MixIdeal.defs _ _).mono (fun r h c => by
    obtain ⟨h0, h1, h2, h3, h4, h5, h6, h7, h8, h9, h10, h11, h12⟩ := Cert.MixIdeal.Body.args_kept (F := Ideal) m h.1 c
    exact ⟨h0, h1, h2, h3, h4, h5, h6, h7, h8, h9, h10, h11, h12, Cert.MixIdeal.Body.post_ones _ _ _ _ _ _ _ _ _ _ _ _ _ _
      fun b s q hz => Cert.MixIdeal.Body.result_shut m c h.1 (ix3 b s q) hz⟩) (Cert.MixIdeal.Body.run_quiescent (F := Ideal) m ρ)

/-- For each call: the frames, and that the idealized kernel is the kernel's own text; then, of the token mixing call, what it leaves
    where its gate is zero, and of the others the equality of the results. -/
theorem claim : Cert.Claim := ⟨Cert.Mix.Gen.facts, Cert.MixIdeal.Gen.facts, Cert.Ffn.Gen.facts, Cert.FfnIdeal.Gen.facts, Cert.FfnRefIdeal.Gen.facts,
  Cert.Mod.Gen.facts, Cert.ModIdeal.Gen.facts, Cert.ModRefIdeal.Gen.facts, Cert.Inner.Gen.facts, Cert.InnerIdeal.Gen.facts,
  Cert.InnerRefIdeal.Gen.facts, Cert.Pre_ffn_finite.Gen.facts, Cert.Pre_mod_finite.Gen.facts,
  Cert.Post_unchanged_where_shut.Gen.facts,
  fun m ρ _ => Cert.Mix.Body.frame m ρ, fun m ρ _ => Cert.MixIdeal.Body.frame m ρ,
  fun m ρ _ => Cert.Ffn.Gen.frame m ρ, fun m ρ _ => Cert.FfnIdeal.Gen.frame m ρ, fun m ρ _ => Cert.FfnIdeal.Gen.frame m ρ,
  frame_FfnRefIdeal, fun m ρ _ => frame_FfnRefIdeal m ρ trivial,
  fun m ρ _ => Cert.Mod.Gen.frame m ρ, fun m ρ _ => Cert.ModIdeal.Gen.frame m ρ, fun m ρ _ => Cert.ModIdeal.Gen.frame m ρ,
  frame_ModRefIdeal, fun m ρ _ => frame_ModRefIdeal m ρ trivial,
  fun m ρ _ => Cert.Inner.Gen.frame m ρ, fun m ρ _ => Cert.InnerIdeal.Gen.frame m ρ, fun m ρ _ => Cert.InnerIdeal.Gen.frame m ρ,
  frame_InnerRefIdeal, fun m ρ _ => frame_InnerRefIdeal m ρ trivial,
  (trivial : preserves_Mix_MixIdeal), @shut_Mix Cert.Post_unchanged_where_shut.Gen.facts,
  (trivial : preserves_Ffn_FfnIdeal), value_Ffn, (trivial : preserves_Mod_ModIdeal), value_Mod,
  (trivial : preserves_Inner_InnerIdeal), value_Inner⟩

end Cert.Proof

end
